-- ==== Defs.lean ====
def Pre_Kernel [hPre_tokens_in_range : Cert.Pre_tokens_in_range.Facts] (m : (ℓ : Loc Cert.Kernel.nD Cert.Kernel.τ Cert.Kernel.sig) → Buf (Elt Bits) ℓ) : Prop :=
  ∀ c : Dev Cert.Kernel.nD,
    (Cert.Pre_tokens_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_tokens_in_range : Cert.Pre_tokens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "conf_less_redist" .f32 0x3F666632#32 ((287981 / 319980 : ℝ) : EReal)
  ∧ IdealRules.named_const.Statement Cert.KernelIdeal.κ "redist" .f32 0x3651BA72#32 ((1 / 319980 : ℝ) : EReal)
  ∧ IdealRules.named_const.Statement Cert.KernelIdeal.κ "k_const" .f32 0xBFAE63F8#32 (((1 / 10) * (Real.log (129140163 / 106660000000000)) : ℝ) : EReal)

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_tokens_in_range : Cert.Pre_tokens_in_range.Facts) (hPre_finite_and_in_range : Cert.Pre_finite_and_in_range.Facts),
    quiescent_Kernel (hKernel := hKernel) (hPre_tokens_in_range := hPre_tokens_in_range)
    ∧ quiescent_KernelIdeal (hKernelIdeal := hKernelIdeal) (hPre_tokens_in_range := hPre_tokens_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S2048x32000 : Shape := ⟨2, ![2048, 32000]⟩
abbrev S2048 : Shape := ⟨1, ![2048]⟩
abbrev S_ : Shape := ⟨0, ![]⟩

class Facts : Prop where
  bcast_S_S2048x32000 : S_.BroadcastsInDim S2048x32000 (![] : Fin 0 → Fin S2048x32000.rank)
  reducesTo_S2048x32000_S_d0_1 : S2048x32000.ReducesTo [0, 1] S_
  h_S_ : 0 < S_.numel
  bcast_S_S2048 : S_.BroadcastsInDim S2048 (![] : Fin 0 → Fin S2048.rank)

variable [Facts]

def fn {F : FTy → Type} [FloatOps F] (main_arg0 : FVec F S2048x32000 .f32) (main_arg1 : IVec S2048 32) : IVec S2048 1 :=
  let main_v0 : FVec F S2048x32000 .f32 := Host.absf main_arg0
  let main_cst : FVec F S_ .f32 := constant S_ .f32 0x7F800000#32
  let main_v1 : FVec F S2048x32000 .f32 := broadcastInDim S2048x32000 ![] bcast_S_S2048x32000 main_cst
  let main_v2 : IVec S2048x32000 1 := cmpf .olt main_v0 main_v1
  let main_c : IVec S_ 1 := constantI S_ 1 1#1
  let main_v3 : IVec S_ 1 := (fun x v => Host.reduce IntOp.andi x v reducesTo_S2048x32000_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_v6 : IVec S2048 1 := broadcastInDim S2048 ![] bcast_S_S2048 main_v3
  let main_v7 : IVec S2048 1 := andi main_v6 main_v5
  let main_c_1 : IVec S_ 32 := constantI S_ 32 32000#32
  let main_v8 : IVec S2048 32 := broadcastInDim S2048 ![] bcast_S_S2048 main_c_1
  let main_v9 : IVec S2048 1 := cmpi .slt main_arg1 main_v8
  let main_v10 : IVec S2048 1 := andi main_v7 main_v9
  main_v10
-- ==== Pre_tokens_in_range.lean ====
abbrev S2048x32000 : Shape := ⟨2, ![2048, 32000]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S2048x32000 .f32) (main_arg1 : IVec S2048 32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 32000#32
  let main_v2 : IVec S2048 32 := broadcastInDim S2048 ![] bcast_S_S2048 main_c_0
  let main_v3 : IVec S2048 1 := cmpi .slt main_arg1 main_v2
  let main_v4 : IVec S2048 1 := andi main_v1 main_v3
  main_v4
-- ==== Kernel.lean ====
abbrev S2048x32000 : Shape := ⟨2, ![2048, 32000]⟩
abbrev S2048 : Shape := ⟨1, ![2048]⟩
abbrev S512 : Shape := ⟨1, ![512]⟩
abbrev S64 : Shape := ⟨1, ![64]⟩
abbrev S64x8x128 : Shape := ⟨3, ![64, 8, 128]⟩
abbrev S16 : Shape := ⟨1, ![16]⟩
abbrev S_ : Shape := ⟨0, ![]⟩
abbrev S1 : Shape := ⟨1, ![1]⟩
abbrev S1x8x128 : Shape := ⟨3, ![1, 8, 128]⟩
abbrev S8x128 : Shape := ⟨2, ![8, 128]⟩
abbrev S64x1x32 : Shape := ⟨3, ![64, 1, 32]⟩
abbrev S1x1 : Shape := ⟨2, ![1, 1]⟩
abbrev S32x32000 : Shape := ⟨2, ![32, 32000]⟩
abbrev S1x1x32 : Shape := ⟨3, ![1, 1, 32]⟩
abbrev S32 : Shape := ⟨1, ![32]⟩
abbrev S32x1 : Shape := ⟨2, ![32, 1]⟩
abbrev S1x32 : Shape := ⟨2, ![1, 32]⟩

abbrev nBuf : Table → Nat
  | .hbm => 9
  | .local .tc .vmem => 4
  | .local .tc .smem => 1
  | .local .scVector .vmem => 3
  | _ => 0

abbrev bufTy : (tb : Table) → Fin (nBuf tb) → BufTy
  | .hbm, ⟨0, _⟩ => ⟨S2048x32000, .f32⟩
  | .hbm, ⟨1, _⟩ => ⟨S2048, .i32⟩
  | .hbm, ⟨2, _⟩ => ⟨S512, .f32⟩
  | .hbm, ⟨3, _⟩ => ⟨S64x1x32, .i32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local .tc .vmem, ⟨0, _⟩ => ⟨S32x32000, .f32⟩
  | .local .tc .vmem, ⟨1, _⟩ => ⟨S32x32000, .f32⟩
  | .local .tc .vmem, ⟨2, _⟩ => ⟨S1x1x32, .i32⟩
  | .local .tc .vmem, ⟨3, _⟩ => ⟨S1x1x32, .i32⟩
  | .local .tc .smem, ⟨0, _⟩ => ⟨S1x1, .f32⟩
  | .local .scVector .vmem, ⟨0, _⟩ => ⟨S64, .i32⟩
  | .local .scVector .vmem, ⟨1, _⟩ => ⟨S64x8x128, .f32⟩
  | .local .scVector .vmem, ⟨2, _⟩ => ⟨S16, .f32⟩
  | _, _ => ⟨S2048x32000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_mult1 (v9 : BitVec 32) : BitVec 32 :=
  v9

def k0_off2 (i : grid0.Coords) (v9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32 : BitVec 32 := 0#32
  let v7 : BitVec 32 := Scalar.addi v2 c0_i32
  let v10 : BitVec 32 := v9
  ![v7.toNat, v10.toNat]

def k0_chk1 (i : grid0.Coords) (v9 : BitVec 32) : Prop :=
  (128 ∣ (k0_mult1 v9).toNat) ∧
  (∀ a, (k0_off2 i v9) a + S8x128.size a ≤ S2048x32000.size a)
theorem k0_mult1_dvd : ∀ (i : grid0.Coords) (v9 : BitVec 32) (k0_hw1 : k0_chk1 i v9), 128 ∣ (k0_mult1 v9).toNat := fun i v9 k0_hw1 => k0_hw1.1
theorem k0_off2_inb : ∀ (i : grid0.Coords) (v9 : BitVec 32) (k0_hw1 : k0_chk1 i v9), ∀ a, (k0_off2 i v9) a + S8x128.size a ≤ S2048x32000.size a := fun i v9 k0_hw1 => k0_hw1.2

def k0_mult2 (v19 : BitVec 32) : BitVec 32 :=
  v19

def k0_off3 (i : grid0.Coords) (v19 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_5 : BitVec 32 := 0#32
  let v17 : BitVec 32 := Scalar.addi v2 c0_i32_5
  let v20 : BitVec 32 := v19
  ![v17.toNat, v20.toNat]

def k0_chk2 (i : grid0.Coords) (v19 : BitVec 32) : Prop :=
  (128 ∣ (k0_mult2 v19).toNat) ∧
  (∀ a, (k0_off3 i v19) a + S8x128.size a ≤ S2048x32000.size a)
theorem k0_mult2_dvd : ∀ (i : grid0.Coords) (v19 : BitVec 32) (k0_hw2 : k0_chk2 i v19), 128 ∣ (k0_mult2 v19).toNat := fun i v19 k0_hw2 => k0_hw2.1
theorem k0_off3_inb : ∀ (i : grid0.Coords) (v19 : BitVec 32) (k0_hw2 : k0_chk2 i v19), ∀ a, (k0_off3 i v19) a + S8x128.size a ≤ S2048x32000.size a := fun i v19 k0_hw2 => k0_hw2.2

def k0_mult3 (v29 : BitVec 32) : BitVec 32 :=
  v29

def k0_off4 (i : grid0.Coords) (v29 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_10 : BitVec 32 := 0#32
  let v27 : BitVec 32 := Scalar.addi v2 c0_i32_10
  let v30 : BitVec 32 := v29
  ![v27.toNat, v30.toNat]

def k0_chk3 (i : grid0.Coords) (v29 : BitVec 32) : Prop :=
  (128 ∣ (k0_mult3 v29).toNat) ∧
  (∀ a, (k0_off4 i v29) a + S8x128.size a ≤ S2048x32000.size a)
theorem k0_mult3_dvd : ∀ (i : grid0.Coords) (v29 : BitVec 32) (k0_hw3 : k0_chk3 i v29), 128 ∣ (k0_mult3 v29).toNat := fun i v29 k0_hw3 => k0_hw3.1
theorem k0_off4_inb : ∀ (i : grid0.Coords) (v29 : BitVec 32) (k0_hw3 : k0_chk3 i v29), ∀ a, (k0_off4 i v29) a + S8x128.size a ≤ S2048x32000.size a := fun i v29 k0_hw3 => k0_hw3.2

def k0_mult4 (v39 : BitVec 32) : BitVec 32 :=
  v39

def k0_off5 (i : grid0.Coords) (v39 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_16 : BitVec 32 := 0#32
  let v37 : BitVec 32 := Scalar.addi v2 c0_i32_16
  let v40 : BitVec 32 := v39
  ![v37.toNat, v40.toNat]

def k0_chk4 (i : grid0.Coords) (v39 : BitVec 32) : Prop :=
  (128 ∣ (k0_mult4 v39).toNat) ∧
  (∀ a, (k0_off5 i v39) a + S8x128.size a ≤ S2048x32000.size a)
theorem k0_mult4_dvd : ∀ (i : grid0.Coords) (v39 : BitVec 32) (k0_hw4 : k0_chk4 i v39), 128 ∣ (k0_mult4 v39).toNat := fun i v39 k0_hw4 => k0_hw4.1
theorem k0_off5_inb : ∀ (i : grid0.Coords) (v39 : BitVec 32) (k0_hw4 : k0_chk4 i v39), ∀ a, (k0_off5 i v39) a + S8x128.size a ≤ S2048x32000.size a := fun i v39 k0_hw4 => k0_hw4.2

def k0_mult5 (v49 : BitVec 32) : BitVec 32 :=
  v49

def k0_off6 (i : grid0.Coords) (v49 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_21 : BitVec 32 := 0#32
  let v47 : BitVec 32 := Scalar.addi v2 c0_i32_21
  let v50 : BitVec 32 := v49
  ![v47.toNat, v50.toNat]

def k0_chk5 (i : grid0.Coords) (v49 : BitVec 32) : Prop :=
  (128 ∣ (k0_mult5 v49).toNat) ∧
  (∀ a, (k0_off6 i v49) a + S8x128.size a ≤ S2048x32000.size a)
theorem k0_mult5_dvd : ∀ (i : grid0.Coords) (v49 : BitVec 32) (k0_hw5 : k0_chk5 i v49), 128 ∣ (k0_mult5 v49).toNat := fun i v49 k0_hw5 => k0_hw5.1
theorem k0_off6_inb : ∀ (i : grid0.Coords) (v49 : BitVec 32) (k0_hw5 : k0_chk5 i v49), ∀ a, (k0_off6 i v49) a + S8x128.size a ≤ S2048x32000.size a := fun i v49 k0_hw5 => k0_hw5.2

def k0_mult6 (v59 : BitVec 32) : BitVec 32 :=
  v59

def k0_off7 (i : grid0.Coords) (v59 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_26 : BitVec 32 := 0#32
  let v57 : BitVec 32 := Scalar.addi v2 c0_i32_26
  let v60 : BitVec 32 := v59
  ![v57.toNat, v60.toNat]

def k0_chk6 (i : grid0.Coords) (v59 : BitVec 32) : Prop :=
  (128 ∣ (k0_mult6 v59).toNat) ∧
  (∀ a, (k0_off7 i v59) a + S8x128.size a ≤ S2048x32000.size a)
theorem k0_mult6_dvd : ∀ (i : grid0.Coords) (v59 : BitVec 32) (k0_hw6 : k0_chk6 i v59), 128 ∣ (k0_mult6 v59).toNat := fun i v59 k0_hw6 => k0_hw6.1
theorem k0_off7_inb : ∀ (i : grid0.Coords) (v59 : BitVec 32) (k0_hw6 : k0_chk6 i v59), ∀ a, (k0_off7 i v59) a + S8x128.size a ≤ S2048x32000.size a := fun i v59 k0_hw6 => k0_hw6.2

def k0_mult7 (v69 : BitVec 32) : BitVec 32 :=
  v69

def k0_off8 (i : grid0.Coords) (v69 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_31 : BitVec 32 := 0#32
  let v67 : BitVec 32 := Scalar.addi v2 c0_i32_31
  let v70 : BitVec 32 := v69
  ![v67.toNat, v70.toNat]

def k0_chk7 (i : grid0.Coords) (v69 : BitVec 32) : Prop :=
  (128 ∣ (k0_mult7 v69).toNat) ∧
  (∀ a, (k0_off8 i v69) a + S8x128.size a ≤ S2048x32000.size a)
theorem k0_mult7_dvd : ∀ (i : grid0.Coords) (v69 : BitVec 32) (k0_hw7 : k0_chk7 i v69), 128 ∣ (k0_mult7 v69).toNat := fun i v69 k0_hw7 => k0_hw7.1
theorem k0_off8_inb : ∀ (i : grid0.Coords) (v69 : BitVec 32) (k0_hw7 : k0_chk7 i v69), ∀ a, (k0_off8 i v69) a + S8x128.size a ≤ S2048x32000.size a := fun i v69 k0_hw7 => k0_hw7.2

def k0_mult8 (v79 : BitVec 32) : BitVec 32 :=
  v79

def k0_off9 (i : grid0.Coords) (v79 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_36 : BitVec 32 := 0#32
  let v77 : BitVec 32 := Scalar.addi v2 c0_i32_36
  let v80 : BitVec 32 := v79
  ![v77.toNat, v80.toNat]

def k0_chk8 (i : grid0.Coords) (v79 : BitVec 32) : Prop :=
  (128 ∣ (k0_mult8 v79).toNat) ∧
  (∀ a, (k0_off9 i v79) a + S8x128.size a ≤ S2048x32000.size a)
theorem k0_mult8_dvd : ∀ (i : grid0.Coords) (v79 : BitVec 32) (k0_hw8 : k0_chk8 i v79), 128 ∣ (k0_mult8 v79).toNat := fun i v79 k0_hw8 => k0_hw8.1
theorem k0_off9_inb : ∀ (i : grid0.Coords) (v79 : BitVec 32) (k0_hw8 : k0_chk8 i v79), ∀ a, (k0_off9 i v79) a + S8x128.size a ≤ S2048x32000.size a := fun i v79 k0_hw8 => k0_hw8.2

def k0_mult9 (v89 : BitVec 32) : BitVec 32 :=
  v89

def k0_off10 (i : grid0.Coords) (v89 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32 : BitVec 32 := 8#32
  let v87 : BitVec 32 := Scalar.addi v2 c8_i32
  let v90 : BitVec 32 := v89
  ![v87.toNat, v90.toNat]

def k0_chk9 (i : grid0.Coords) (v89 : BitVec 32) : Prop :=
  (128 ∣ (k0_mult9 v89).toNat) ∧
  (∀ a, (k0_off10 i v89) a + S8x128.size a ≤ S2048x32000.size a)
theorem k0_mult9_dvd : ∀ (i : grid0.Coords) (v89 : BitVec 32) (k0_hw9 : k0_chk9 i v89), 128 ∣ (k0_mult9 v89).toNat := fun i v89 k0_hw9 => k0_hw9.1
theorem k0_off10_inb : ∀ (i : grid0.Coords) (v89 : BitVec 32) (k0_hw9 : k0_chk9 i v89), ∀ a, (k0_off10 i v89) a + S8x128.size a ≤ S2048x32000.size a := fun i v89 k0_hw9 => k0_hw9.2

def k0_mult10 (v99 : BitVec 32) : BitVec 32 :=
  v99

def k0_off11 (i : grid0.Coords) (v99 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32_46 : BitVec 32 := 8#32
  let v97 : BitVec 32 := Scalar.addi v2 c8_i32_46
  let v100 : BitVec 32 := v99
  ![v97.toNat, v100.toNat]

def k0_chk10 (i : grid0.Coords) (v99 : BitVec 32) : Prop :=
  (128 ∣ (k0_mult10 v99).toNat) ∧
  (∀ a, (k0_off11 i v99) a + S8x128.size a ≤ S2048x32000.size a)
theorem k0_mult10_dvd : ∀ (i : grid0.Coords) (v99 : BitVec 32) (k0_hw10 : k0_chk10 i v99), 128 ∣ (k0_mult10 v99).toNat := fun i v99 k0_hw10 => k0_hw10.1
theorem k0_off11_inb : ∀ (i : grid0.Coords) (v99 : BitVec 32) (k0_hw10 : k0_chk10 i v99), ∀ a, (k0_off11 i v99) a + S8x128.size a ≤ S2048x32000.size a := fun i v99 k0_hw10 => k0_hw10.2

def k0_mult11 (v109 : BitVec 32) : BitVec 32 :=
  v109

def k0_off12 (i : grid0.Coords) (v109 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32_51 : BitVec 32 := 8#32
  let v107 : BitVec 32 := Scalar.addi v2 c8_i32_51
  let v110 : BitVec 32 := v109
  ![v107.toNat, v110.toNat]

def k0_chk11 (i : grid0.Coords) (v109 : BitVec 32) : Prop :=
  (128 ∣ (k0_mult11 v109).toNat) ∧
  (∀ a, (k0_off12 i v109) a + S8x128.size a ≤ S2048x32000.size a)
theorem k0_mult11_dvd : ∀ (i : grid0.Coords) (v109 : BitVec 32) (k0_hw11 : k0_chk11 i v109), 128 ∣ (k0_mult11 v109).toNat := fun i v109 k0_hw11 => k0_hw11.1
theorem k0_off12_inb : ∀ (i : grid0.Coords) (v109 : BitVec 32) (k0_hw11 : k0_chk11 i v109), ∀ a, (k0_off12 i v109) a + S8x128.size a ≤ S2048x32000.size a := fun i v109 k0_hw11 => k0_hw11.2

def k0_mult12 (v119 : BitVec 32) : BitVec 32 :=
  v119

def k0_off13 (i : grid0.Coords) (v119 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32_56 : BitVec 32 := 8#32
  let v117 : BitVec 32 := Scalar.addi v2 c8_i32_56
  let v120 : BitVec 32 := v119
  ![v117.toNat, v120.toNat]

def k0_chk12 (i : grid0.Coords) (v119 : BitVec 32) : Prop :=
  (128 ∣ (k0_mult12 v119).toNat) ∧
  (∀ a, (k0_off13 i v119) a + S8x128.size a ≤ S2048x32000.size a)
theorem k0_mult12_dvd : ∀ (i : grid0.Coords) (v119 : BitVec 32) (k0_hw12 : k0_chk12 i v119), 128 ∣ (k0_mult12 v119).toNat := fun i v119 k0_hw12 => k0_hw12.1
theorem k0_off13_inb : ∀ (i : grid0.Coords) (v119 : BitVec 32) (k0_hw12 : k0_chk12 i v119), ∀ a, (k0_off13 i v119) a + S8x128.size a ≤ S2048x32000.size a := fun i v119 k0_hw12 => k0_hw12.2

def k0_mult13 (v129 : BitVec 32) : BitVec 32 :=
  v129

def k0_off14 (i : grid0.Coords) (v129 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32_61 : BitVec 32 := 8#32
  let v127 : BitVec 32 := Scalar.addi v2 c8_i32_61
  let v130 : BitVec 32 := v129
  ![v127.toNat, v130.toNat]

def k0_chk13 (i : grid0.Coords) (v129 : BitVec 32) : Prop :=
  (128 ∣ (k0_mult13 v129).toNat) ∧
  (∀ a, (k0_off14 i v129) a + S8x128.size a ≤ S2048x32000.size a)
theorem k0_mult13_dvd : ∀ (i : grid0.Coords) (v129 : BitVec 32) (k0_hw13 : k0_chk13 i v129), 128 ∣ (k0_mult13 v129).toNat := fun i v129 k0_hw13 => k0_hw13.1
theorem k0_off14_inb : ∀ (i : grid0.Coords) (v129 : BitVec 32) (k0_hw13 : k0_chk13 i v129), ∀ a, (k0_off14 i v129) a + S8x128.size a ≤ S2048x32000.size a := fun i v129 k0_hw13 => k0_hw13.2

def k0_mult14 (v139 : BitVec 32) : BitVec 32 :=
  v139

def k0_off15 (i : grid0.Coords) (v139 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32_66 : BitVec 32 := 8#32
  let v137 : BitVec 32 := Scalar.addi v2 c8_i32_66
  let v140 : BitVec 32 := v139
  ![v137.toNat, v140.toNat]

def k0_chk14 (i : grid0.Coords) (v139 : BitVec 32) : Prop :=
  (128 ∣ (k0_mult14 v139).toNat) ∧
  (∀ a, (k0_off15 i v139) a + S8x128.size a ≤ S2048x32000.size a)
theorem k0_mult14_dvd : ∀ (i : grid0.Coords) (v139 : BitVec 32) (k0_hw14 : k0_chk14 i v139), 128 ∣ (k0_mult14 v139).toNat := fun i v139 k0_hw14 => k0_hw14.1
theorem k0_off15_inb : ∀ (i : grid0.Coords) (v139 : BitVec 32) (k0_hw14 : k0_chk14 i v139), ∀ a, (k0_off15 i v139) a + S8x128.size a ≤ S2048x32000.size a := fun i v139 k0_hw14 => k0_hw14.2

def k0_mult15 (v149 : BitVec 32) : BitVec 32 :=
  v149

def k0_off16 (i : grid0.Coords) (v149 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32_71 : BitVec 32 := 8#32
  let v147 : BitVec 32 := Scalar.addi v2 c8_i32_71
  let v150 : BitVec 32 := v149
  ![v147.toNat, v150.toNat]

def k0_chk15 (i : grid0.Coords) (v149 : BitVec 32) : Prop :=
  (128 ∣ (k0_mult15 v149).toNat) ∧
  (∀ a, (k0_off16 i v149) a + S8x128.size a ≤ S2048x32000.size a)
theorem k0_mult15_dvd : ∀ (i : grid0.Coords) (v149 : BitVec 32) (k0_hw15 : k0_chk15 i v149), 128 ∣ (k0_mult15 v149).toNat := fun i v149 k0_hw15 => k0_hw15.1
theorem k0_off16_inb : ∀ (i : grid0.Coords) (v149 : BitVec 32) (k0_hw15 : k0_chk15 i v149), ∀ a, (k0_off16 i v149) a + S8x128.size a ≤ S2048x32000.size a := fun i v149 k0_hw15 => k0_hw15.2

def k0_mult16 (v159 : BitVec 32) : BitVec 32 :=
  v159

def k0_off17 (i : grid0.Coords) (v159 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32_76 : BitVec 32 := 8#32
  let v157 : BitVec 32 := Scalar.addi v2 c8_i32_76
  let v160 : BitVec 32 := v159
  ![v157.toNat, v160.toNat]

def k0_chk16 (i : grid0.Coords) (v159 : BitVec 32) : Prop :=
  (128 ∣ (k0_mult16 v159).toNat) ∧
  (∀ a, (k0_off17 i v159) a + S8x128.size a ≤ S2048x32000.size a)
theorem k0_mult16_dvd : ∀ (i : grid0.Coords) (v159 : BitVec 32) (k0_hw16 : k0_chk16 i v159), 128 ∣ (k0_mult16 v159).toNat := fun i v159 k0_hw16 => k0_hw16.1
theorem k0_off17_inb : ∀ (i : grid0.Coords) (v159 : BitVec 32) (k0_hw16 : k0_chk16 i v159), ∀ a, (k0_off17 i v159) a + S8x128.size a ≤ S2048x32000.size a := fun i v159 k0_hw16 => k0_hw16.2

def k0_mult17 (v173 : BitVec 32) : BitVec 32 :=
  v173

def k0_off18 (i : grid0.Coords) (v173 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32 : BitVec 32 := 16#32
  let v171 : BitVec 32 := Scalar.addi v2 c16_i32
  let v174 : BitVec 32 := v173
  ![v171.toNat, v174.toNat]

def k0_chk17 (i : grid0.Coords) (v173 : BitVec 32) : Prop :=
  (128 ∣ (k0_mult17 v173).toNat) ∧
  (∀ a, (k0_off18 i v173) a + S8x128.size a ≤ S2048x32000.size a)
theorem k0_mult17_dvd : ∀ (i : grid0.Coords) (v173 : BitVec 32) (k0_hw17 : k0_chk17 i v173), 128 ∣ (k0_mult17 v173).toNat := fun i v173 k0_hw17 => k0_hw17.1
theorem k0_off18_inb : ∀ (i : grid0.Coords) (v173 : BitVec 32) (k0_hw17 : k0_chk17 i v173), ∀ a, (k0_off18 i v173) a + S8x128.size a ≤ S2048x32000.size a := fun i v173 k0_hw17 => k0_hw17.2

def k0_mult18 (v183 : BitVec 32) : BitVec 32 :=
  v183

def k0_off19 (i : grid0.Coords) (v183 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32_87 : BitVec 32 := 16#32
  let v181 : BitVec 32 := Scalar.addi v2 c16_i32_87
  let v184 : BitVec 32 := v183
  ![v181.toNat, v184.toNat]

def k0_chk18 (i : grid0.Coords) (v183 : BitVec 32) : Prop :=
  (128 ∣ (k0_mult18 v183).toNat) ∧
  (∀ a, (k0_off19 i v183) a + S8x128.size a ≤ S2048x32000.size a)
theorem k0_mult18_dvd : ∀ (i : grid0.Coords) (v183 : BitVec 32) (k0_hw18 : k0_chk18 i v183), 128 ∣ (k0_mult18 v183).toNat := fun i v183 k0_hw18 => k0_hw18.1
theorem k0_off19_inb : ∀ (i : grid0.Coords) (v183 : BitVec 32) (k0_hw18 : k0_chk18 i v183), ∀ a, (k0_off19 i v183) a + S8x128.size a ≤ S2048x32000.size a := fun i v183 k0_hw18 => k0_hw18.2

def k0_mult19 (v193 : BitVec 32) : BitVec 32 :=
  v193

def k0_off20 (i : grid0.Coords) (v193 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32_92 : BitVec 32 := 16#32
  let v191 : BitVec 32 := Scalar.addi v2 c16_i32_92
  let v194 : BitVec 32 := v193
  ![v191.toNat, v194.toNat]

def k0_chk19 (i : grid0.Coords) (v193 : BitVec 32) : Prop :=
  (128 ∣ (k0_mult19 v193).toNat) ∧
  (∀ a, (k0_off20 i v193) a + S8x128.size a ≤ S2048x32000.size a)
theorem k0_mult19_dvd : ∀ (i : grid0.Coords) (v193 : BitVec 32) (k0_hw19 : k0_chk19 i v193), 128 ∣ (k0_mult19 v193).toNat := fun i v193 k0_hw19 => k0_hw19.1
theorem k0_off20_inb : ∀ (i : grid0.Coords) (v193 : BitVec 32) (k0_hw19 : k0_chk19 i v193), ∀ a, (k0_off20 i v193) a + S8x128.size a ≤ S2048x32000.size a := fun i v193 k0_hw19 => k0_hw19.2

def k0_mult20 (v203 : BitVec 32) : BitVec 32 :=
  v203

def k0_off21 (i : grid0.Coords) (v203 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32_97 : BitVec 32 := 16#32
  let v201 : BitVec 32 := Scalar.addi v2 c16_i32_97
  let v204 : BitVec 32 := v203
  ![v201.toNat, v204.toNat]

def k0_chk20 (i : grid0.Coords) (v203 : BitVec 32) : Prop :=
  (128 ∣ (k0_mult20 v203).toNat) ∧
  (∀ a, (k0_off21 i v203) a + S8x128.size a ≤ S2048x32000.size a)
theorem k0_mult20_dvd : ∀ (i : grid0.Coords) (v203 : BitVec 32) (k0_hw20 : k0_chk20 i v203), 128 ∣ (k0_mult20 v203).toNat := fun i v203 k0_hw20 => k0_hw20.1
theorem k0_off21_inb : ∀ (i : grid0.Coords) (v203 : BitVec 32) (k0_hw20 : k0_chk20 i v203), ∀ a, (k0_off21 i v203) a + S8x128.size a ≤ S2048x32000.size a := fun i v203 k0_hw20 => k0_hw20.2

def k0_mult21 (v213 : BitVec 32) : BitVec 32 :=
  v213

def k0_off22 (i : grid0.Coords) (v213 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32_102 : BitVec 32 := 16#32
  let v211 : BitVec 32 := Scalar.addi v2 c16_i32_102
  let v214 : BitVec 32 := v213
  ![v211.toNat, v214.toNat]

def k0_chk21 (i : grid0.Coords) (v213 : BitVec 32) : Prop :=
  (128 ∣ (k0_mult21 v213).toNat) ∧
  (∀ a, (k0_off22 i v213) a + S8x128.size a ≤ S2048x32000.size a)
theorem k0_mult21_dvd : ∀ (i : grid0.Coords) (v213 : BitVec 32) (k0_hw21 : k0_chk21 i v213), 128 ∣ (k0_mult21 v213).toNat := fun i v213 k0_hw21 => k0_hw21.1
theorem k0_off22_inb : ∀ (i : grid0.Coords) (v213 : BitVec 32) (k0_hw21 : k0_chk21 i v213), ∀ a, (k0_off22 i v213) a + S8x128.size a ≤ S2048x32000.size a := fun i v213 k0_hw21 => k0_hw21.2

def k0_mult22 (v223 : BitVec 32) : BitVec 32 :=
  v223

def k0_off23 (i : grid0.Coords) (v223 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32_107 : BitVec 32 := 16#32
  let v221 : BitVec 32 := Scalar.addi v2 c16_i32_107
  let v224 : BitVec 32 := v223
  ![v221.toNat, v224.toNat]

def k0_chk22 (i : grid0.Coords) (v223 : BitVec 32) : Prop :=
  (128 ∣ (k0_mult22 v223).toNat) ∧
  (∀ a, (k0_off23 i v223) a + S8x128.size a ≤ S2048x32000.size a)
theorem k0_mult22_dvd : ∀ (i : grid0.Coords) (v223 : BitVec 32) (k0_hw22 : k0_chk22 i v223), 128 ∣ (k0_mult22 v223).toNat := fun i v223 k0_hw22 => k0_hw22.1
theorem k0_off23_inb : ∀ (i : grid0.Coords) (v223 : BitVec 32) (k0_hw22 : k0_chk22 i v223), ∀ a, (k0_off23 i v223) a + S8x128.size a ≤ S2048x32000.size a := fun i v223 k0_hw22 => k0_hw22.2

def k0_mult23 (v233 : BitVec 32) : BitVec 32 :=
  v233

def k0_off24 (i : grid0.Coords) (v233 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32_112 : BitVec 32 := 16#32
  let v231 : BitVec 32 := Scalar.addi v2 c16_i32_112
  let v234 : BitVec 32 := v233
  ![v231.toNat, v234.toNat]

def k0_chk23 (i : grid0.Coords) (v233 : BitVec 32) : Prop :=
  (128 ∣ (k0_mult23 v233).toNat) ∧
  (∀ a, (k0_off24 i v233) a + S8x128.size a ≤ S2048x32000.size a)
theorem k0_mult23_dvd : ∀ (i : grid0.Coords) (v233 : BitVec 32) (k0_hw23 : k0_chk23 i v233), 128 ∣ (k0_mult23 v233).toNat := fun i v233 k0_hw23 => k0_hw23.1
theorem k0_off24_inb : ∀ (i : grid0.Coords) (v233 : BitVec 32) (k0_hw23 : k0_chk23 i v233), ∀ a, (k0_off24 i v233) a + S8x128.size a ≤ S2048x32000.size a := fun i v233 k0_hw23 => k0_hw23.2

def k0_mult24 (v243 : BitVec 32) : BitVec 32 :=
  v243

def k0_off25 (i : grid0.Coords) (v243 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32_117 : BitVec 32 := 16#32
  let v241 : BitVec 32 := Scalar.addi v2 c16_i32_117
  let v244 : BitVec 32 := v243
  ![v241.toNat, v244.toNat]

def k0_chk24 (i : grid0.Coords) (v243 : BitVec 32) : Prop :=
  (128 ∣ (k0_mult24 v243).toNat) ∧
  (∀ a, (k0_off25 i v243) a + S8x128.size a ≤ S2048x32000.size a)
theorem k0_mult24_dvd : ∀ (i : grid0.Coords) (v243 : BitVec 32) (k0_hw24 : k0_chk24 i v243), 128 ∣ (k0_mult24 v243).toNat := fun i v243 k0_hw24 => k0_hw24.1
theorem k0_off25_inb : ∀ (i : grid0.Coords) (v243 : BitVec 32) (k0_hw24 : k0_chk24 i v243), ∀ a, (k0_off25 i v243) a + S8x128.size a ≤ S2048x32000.size a := fun i v243 k0_hw24 => k0_hw24.2

def k0_mult25 (v253 : BitVec 32) : BitVec 32 :=
  v253

def k0_off26 (i : grid0.Coords) (v253 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c24_i32 : BitVec 32 := 24#32
  let v251 : BitVec 32 := Scalar.addi v2 c24_i32
  let v254 : BitVec 32 := v253
  ![v251.toNat, v254.toNat]

def k0_chk25 (i : grid0.Coords) (v253 : BitVec 32) : Prop :=
  (128 ∣ (k0_mult25 v253).toNat) ∧
  (∀ a, (k0_off26 i v253) a + S8x128.size a ≤ S2048x32000.size a)
theorem k0_mult25_dvd : ∀ (i : grid0.Coords) (v253 : BitVec 32) (k0_hw25 : k0_chk25 i v253), 128 ∣ (k0_mult25 v253).toNat := fun i v253 k0_hw25 => k0_hw25.1
theorem k0_off26_inb : ∀ (i : grid0.Coords) (v253 : BitVec 32) (k0_hw25 : k0_chk25 i v253), ∀ a, (k0_off26 i v253) a + S8x128.size a ≤ S2048x32000.size a := fun i v253 k0_hw25 => k0_hw25.2

def k0_mult26 (v263 : BitVec 32) : BitVec 32 :=
  v263

def k0_off27 (i : grid0.Coords) (v263 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c24_i32_127 : BitVec 32 := 24#32
  let v261 : BitVec 32 := Scalar.addi v2 c24_i32_127
  let v264 : BitVec 32 := v263
  ![v261.toNat, v264.toNat]

def k0_chk26 (i : grid0.Coords) (v263 : BitVec 32) : Prop :=
  (128 ∣ (k0_mult26 v263).toNat) ∧
  (∀ a, (k0_off27 i v263) a + S8x128.size a ≤ S2048x32000.size a)
theorem k0_mult26_dvd : ∀ (i : grid0.Coords) (v263 : BitVec 32) (k0_hw26 : k0_chk26 i v263), 128 ∣ (k0_mult26 v263).toNat := fun i v263 k0_hw26 => k0_hw26.1
theorem k0_off27_inb : ∀ (i : grid0.Coords) (v263 : BitVec 32) (k0_hw26 : k0_chk26 i v263), ∀ a, (k0_off27 i v263) a + S8x128.size a ≤ S2048x32000.size a := fun i v263 k0_hw26 => k0_hw26.2

def k0_mult27 (v273 : BitVec 32) : BitVec 32 :=
  v273

def k0_off28 (i : grid0.Coords) (v273 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c24_i32_132 : BitVec 32 := 24#32
  let v271 : BitVec 32 := Scalar.addi v2 c24_i32_132
  let v274 : BitVec 32 := v273
  ![v271.toNat, v274.toNat]

def k0_chk27 (i : grid0.Coords) (v273 : BitVec 32) : Prop :=
  (128 ∣ (k0_mult27 v273).toNat) ∧
  (∀ a, (k0_off28 i v273) a + S8x128.size a ≤ S2048x32000.size a)
theorem k0_mult27_dvd : ∀ (i : grid0.Coords) (v273 : BitVec 32) (k0_hw27 : k0_chk27 i v273), 128 ∣ (k0_mult27 v273).toNat := fun i v273 k0_hw27 => k0_hw27.1
theorem k0_off28_inb : ∀ (i : grid0.Coords) (v273 : BitVec 32) (k0_hw27 : k0_chk27 i v273), ∀ a, (k0_off28 i v273) a + S8x128.size a ≤ S2048x32000.size a := fun i v273 k0_hw27 => k0_hw27.2

def k0_mult28 (v283 : BitVec 32) : BitVec 32 :=
  v283

def k0_off29 (i : grid0.Coords) (v283 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c24_i32_137 : BitVec 32 := 24#32
  let v281 : BitVec 32 := Scalar.addi v2 c24_i32_137
  let v284 : BitVec 32 := v283
  ![v281.toNat, v284.toNat]

def k0_chk28 (i : grid0.Coords) (v283 : BitVec 32) : Prop :=
  (128 ∣ (k0_mult28 v283).toNat) ∧
  (∀ a, (k0_off29 i v283) a + S8x128.size a ≤ S2048x32000.size a)
theorem k0_mult28_dvd : ∀ (i : grid0.Coords) (v283 : BitVec 32) (k0_hw28 : k0_chk28 i v283), 128 ∣ (k0_mult28 v283).toNat := fun i v283 k0_hw28 => k0_hw28.1
theorem k0_off29_inb : ∀ (i : grid0.Coords) (v283 : BitVec 32) (k0_hw28 : k0_chk28 i v283), ∀ a, (k0_off29 i v283) a + S8x128.size a ≤ S2048x32000.size a := fun i v283 k0_hw28 => k0_hw28.2

def k0_mult29 (v293 : BitVec 32) : BitVec 32 :=
  v293

def k0_off30 (i : grid0.Coords) (v293 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c24_i32_142 : BitVec 32 := 24#32
  let v291 : BitVec 32 := Scalar.addi v2 c24_i32_142
  let v294 : BitVec 32 := v293
  ![v291.toNat, v294.toNat]

def k0_chk29 (i : grid0.Coords) (v293 : BitVec 32) : Prop :=
  (128 ∣ (k0_mult29 v293).toNat) ∧
  (∀ a, (k0_off30 i v293) a + S8x128.size a ≤ S2048x32000.size a)
theorem k0_mult29_dvd : ∀ (i : grid0.Coords) (v293 : BitVec 32) (k0_hw29 : k0_chk29 i v293), 128 ∣ (k0_mult29 v293).toNat := fun i v293 k0_hw29 => k0_hw29.1
theorem k0_off30_inb : ∀ (i : grid0.Coords) (v293 : BitVec 32) (k0_hw29 : k0_chk29 i v293), ∀ a, (k0_off30 i v293) a + S8x128.size a ≤ S2048x32000.size a := fun i v293 k0_hw29 => k0_hw29.2

def k0_mult30 (v303 : BitVec 32) : BitVec 32 :=
  v303

def k0_off31 (i : grid0.Coords) (v303 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c24_i32_147 : BitVec 32 := 24#32
  let v301 : BitVec 32 := Scalar.addi v2 c24_i32_147
  let v304 : BitVec 32 := v303
  ![v301.toNat, v304.toNat]

def k0_chk30 (i : grid0.Coords) (v303 : BitVec 32) : Prop :=
  (128 ∣ (k0_mult30 v303).toNat) ∧
  (∀ a, (k0_off31 i v303) a + S8x128.size a ≤ S2048x32000.size a)
theorem k0_mult30_dvd : ∀ (i : grid0.Coords) (v303 : BitVec 32) (k0_hw30 : k0_chk30 i v303), 128 ∣ (k0_mult30 v303).toNat := fun i v303 k0_hw30 => k0_hw30.1
theorem k0_off31_inb : ∀ (i : grid0.Coords) (v303 : BitVec 32) (k0_hw30 : k0_chk30 i v303), ∀ a, (k0_off31 i v303) a + S8x128.size a ≤ S2048x32000.size a := fun i v303 k0_hw30 => k0_hw30.2

def k0_mult31 (v313 : BitVec 32) : BitVec 32 :=
  v313

def k0_off32 (i : grid0.Coords) (v313 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c24_i32_152 : BitVec 32 := 24#32
  let v311 : BitVec 32 := Scalar.addi v2 c24_i32_152
  let v314 : BitVec 32 := v313
  ![v311.toNat, v314.toNat]

def k0_chk31 (i : grid0.Coords) (v313 : BitVec 32) : Prop :=
  (128 ∣ (k0_mult31 v313).toNat) ∧
  (∀ a, (k0_off32 i v313) a + S8x128.size a ≤ S2048x32000.size a)
theorem k0_mult31_dvd : ∀ (i : grid0.Coords) (v313 : BitVec 32) (k0_hw31 : k0_chk31 i v313), 128 ∣ (k0_mult31 v313).toNat := fun i v313 k0_hw31 => k0_hw31.1
theorem k0_off32_inb : ∀ (i : grid0.Coords) (v313 : BitVec 32) (k0_hw31 : k0_chk31 i v313), ∀ a, (k0_off32 i v313) a + S8x128.size a ≤ S2048x32000.size a := fun i v313 k0_hw31 => k0_hw31.2

def k0_mult32 (v323 : BitVec 32) : BitVec 32 :=
  v323

def k0_off33 (i : grid0.Coords) (v323 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c24_i32_157 : BitVec 32 := 24#32
  let v321 : BitVec 32 := Scalar.addi v2 c24_i32_157
  let v324 : BitVec 32 := v323
  ![v321.toNat, v324.toNat]

def k0_chk32 (i : grid0.Coords) (v323 : BitVec 32) : Prop :=
  (128 ∣ (k0_mult32 v323).toNat) ∧
  (∀ a, (k0_off33 i v323) a + S8x128.size a ≤ S2048x32000.size a)
theorem k0_mult32_dvd : ∀ (i : grid0.Coords) (v323 : BitVec 32) (k0_hw32 : k0_chk32 i v323), 128 ∣ (k0_mult32 v323).toNat := fun i v323 k0_hw32 => k0_hw32.1
theorem k0_off33_inb : ∀ (i : grid0.Coords) (v323 : BitVec 32) (k0_hw32 : k0_chk32 i v323), ∀ a, (k0_off33 i v323) a + S8x128.size a ≤ S2048x32000.size a := fun i v323 k0_hw32 => k0_hw32.2

def k0_mult33 (v337 : BitVec 32) : BitVec 32 :=
  v337

def k0_off34 (i : grid0.Coords) (v337 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32 : BitVec 32 := 32#32
  let v335 : BitVec 32 := Scalar.addi v2 c32_i32
  let v338 : BitVec 32 := v337
  ![v335.toNat, v338.toNat]

def k0_chk33 (i : grid0.Coords) (v337 : BitVec 32) : Prop :=
  (128 ∣ (k0_mult33 v337).toNat) ∧
  (∀ a, (k0_off34 i v337) a + S8x128.size a ≤ S2048x32000.size a)
theorem k0_mult33_dvd : ∀ (i : grid0.Coords) (v337 : BitVec 32) (k0_hw33 : k0_chk33 i v337), 128 ∣ (k0_mult33 v337).toNat := fun i v337 k0_hw33 => k0_hw33.1
theorem k0_off34_inb : ∀ (i : grid0.Coords) (v337 : BitVec 32) (k0_hw33 : k0_chk33 i v337), ∀ a, (k0_off34 i v337) a + S8x128.size a ≤ S2048x32000.size a := fun i v337 k0_hw33 => k0_hw33.2

def k0_mult34 (v347 : BitVec 32) : BitVec 32 :=
  v347

def k0_off35 (i : grid0.Coords) (v347 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32_168 : BitVec 32 := 32#32
  let v345 : BitVec 32 := Scalar.addi v2 c32_i32_168
  let v348 : BitVec 32 := v347
  ![v345.toNat, v348.toNat]

def k0_chk34 (i : grid0.Coords) (v347 : BitVec 32) : Prop :=
  (128 ∣ (k0_mult34 v347).toNat) ∧
  (∀ a, (k0_off35 i v347) a + S8x128.size a ≤ S2048x32000.size a)
theorem k0_mult34_dvd : ∀ (i : grid0.Coords) (v347 : BitVec 32) (k0_hw34 : k0_chk34 i v347), 128 ∣ (k0_mult34 v347).toNat := fun i v347 k0_hw34 => k0_hw34.1
theorem k0_off35_inb : ∀ (i : grid0.Coords) (v347 : BitVec 32) (k0_hw34 : k0_chk34 i v347), ∀ a, (k0_off35 i v347) a + S8x128.size a ≤ S2048x32000.size a := fun i v347 k0_hw34 => k0_hw34.2

def k0_mult35 (v357 : BitVec 32) : BitVec 32 :=
  v357

def k0_off36 (i : grid0.Coords) (v357 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32_173 : BitVec 32 := 32#32
  let v355 : BitVec 32 := Scalar.addi v2 c32_i32_173
  let v358 : BitVec 32 := v357
  ![v355.toNat, v358.toNat]

def k0_chk35 (i : grid0.Coords) (v357 : BitVec 32) : Prop :=
  (128 ∣ (k0_mult35 v357).toNat) ∧
  (∀ a, (k0_off36 i v357) a + S8x128.size a ≤ S2048x32000.size a)
theorem k0_mult35_dvd : ∀ (i : grid0.Coords) (v357 : BitVec 32) (k0_hw35 : k0_chk35 i v357), 128 ∣ (k0_mult35 v357).toNat := fun i v357 k0_hw35 => k0_hw35.1
theorem k0_off36_inb : ∀ (i : grid0.Coords) (v357 : BitVec 32) (k0_hw35 : k0_chk35 i v357), ∀ a, (k0_off36 i v357) a + S8x128.size a ≤ S2048x32000.size a := fun i v357 k0_hw35 => k0_hw35.2

def k0_mult36 (v367 : BitVec 32) : BitVec 32 :=
  v367

def k0_off37 (i : grid0.Coords) (v367 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32_178 : BitVec 32 := 32#32
  let v365 : BitVec 32 := Scalar.addi v2 c32_i32_178
  let v368 : BitVec 32 := v367
  ![v365.toNat, v368.toNat]

def k0_chk36 (i : grid0.Coords) (v367 : BitVec 32) : Prop :=
  (128 ∣ (k0_mult36 v367).toNat) ∧
  (∀ a, (k0_off37 i v367) a + S8x128.size a ≤ S2048x32000.size a)
theorem k0_mult36_dvd : ∀ (i : grid0.Coords) (v367 : BitVec 32) (k0_hw36 : k0_chk36 i v367), 128 ∣ (k0_mult36 v367).toNat := fun i v367 k0_hw36 => k0_hw36.1
theorem k0_off37_inb : ∀ (i : grid0.Coords) (v367 : BitVec 32) (k0_hw36 : k0_chk36 i v367), ∀ a, (k0_off37 i v367) a + S8x128.size a ≤ S2048x32000.size a := fun i v367 k0_hw36 => k0_hw36.2

def k0_mult37 (v377 : BitVec 32) : BitVec 32 :=
  v377

def k0_off38 (i : grid0.Coords) (v377 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32_183 : BitVec 32 := 32#32
  let v375 : BitVec 32 := Scalar.addi v2 c32_i32_183
  let v378 : BitVec 32 := v377
  ![v375.toNat, v378.toNat]

def k0_chk37 (i : grid0.Coords) (v377 : BitVec 32) : Prop :=
  (128 ∣ (k0_mult37 v377).toNat) ∧
  (∀ a, (k0_off38 i v377) a + S8x128.size a ≤ S2048x32000.size a)
theorem k0_mult37_dvd : ∀ (i : grid0.Coords) (v377 : BitVec 32) (k0_hw37 : k0_chk37 i v377), 128 ∣ (k0_mult37 v377).toNat := fun i v377 k0_hw37 => k0_hw37.1
theorem k0_off38_inb : ∀ (i : grid0.Coords) (v377 : BitVec 32) (k0_hw37 : k0_chk37 i v377), ∀ a, (k0_off38 i v377) a + S8x128.size a ≤ S2048x32000.size a := fun i v377 k0_hw37 => k0_hw37.2

def k0_mult38 (v387 : BitVec 32) : BitVec 32 :=
  v387

def k0_off39 (i : grid0.Coords) (v387 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32_188 : BitVec 32 := 32#32
  let v385 : BitVec 32 := Scalar.addi v2 c32_i32_188
  let v388 : BitVec 32 := v387
  ![v385.toNat, v388.toNat]

def k0_chk38 (i : grid0.Coords) (v387 : BitVec 32) : Prop :=
  (128 ∣ (k0_mult38 v387).toNat) ∧
  (∀ a, (k0_off39 i v387) a + S8x128.size a ≤ S2048x32000.size a)
theorem k0_mult38_dvd : ∀ (i : grid0.Coords) (v387 : BitVec 32) (k0_hw38 : k0_chk38 i v387), 128 ∣ (k0_mult38 v387).toNat := fun i v387 k0_hw38 => k0_hw38.1
theorem k0_off39_inb : ∀ (i : grid0.Coords) (v387 : BitVec 32) (k0_hw38 : k0_chk38 i v387), ∀ a, (k0_off39 i v387) a + S8x128.size a ≤ S2048x32000.size a := fun i v387 k0_hw38 => k0_hw38.2

def k0_mult39 (v397 : BitVec 32) : BitVec 32 :=
  v397

def k0_off40 (i : grid0.Coords) (v397 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32_193 : BitVec 32 := 32#32
  let v395 : BitVec 32 := Scalar.addi v2 c32_i32_193
  let v398 : BitVec 32 := v397
  ![v395.toNat, v398.toNat]

def k0_chk39 (i : grid0.Coords) (v397 : BitVec 32) : Prop :=
  (128 ∣ (k0_mult39 v397).toNat) ∧
  (∀ a, (k0_off40 i v397) a + S8x128.size a ≤ S2048x32000.size a)
theorem k0_mult39_dvd : ∀ (i : grid0.Coords) (v397 : BitVec 32) (k0_hw39 : k0_chk39 i v397), 128 ∣ (k0_mult39 v397).toNat := fun i v397 k0_hw39 => k0_hw39.1
theorem k0_off40_inb : ∀ (i : grid0.Coords) (v397 : BitVec 32) (k0_hw39 : k0_chk39 i v397), ∀ a, (k0_off40 i v397) a + S8x128.size a ≤ S2048x32000.size a := fun i v397 k0_hw39 => k0_hw39.2

def k0_mult40 (v407 : BitVec 32) : BitVec 32 :=
  v407

def k0_off41 (i : grid0.Coords) (v407 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32_198 : BitVec 32 := 32#32
  let v405 : BitVec 32 := Scalar.addi v2 c32_i32_198
  let v408 : BitVec 32 := v407
  ![v405.toNat, v408.toNat]

def k0_chk40 (i : grid0.Coords) (v407 : BitVec 32) : Prop :=
  (128 ∣ (k0_mult40 v407).toNat) ∧
  (∀ a, (k0_off41 i v407) a + S8x128.size a ≤ S2048x32000.size a)
theorem k0_mult40_dvd : ∀ (i : grid0.Coords) (v407 : BitVec 32) (k0_hw40 : k0_chk40 i v407), 128 ∣ (k0_mult40 v407).toNat := fun i v407 k0_hw40 => k0_hw40.1
theorem k0_off41_inb : ∀ (i : grid0.Coords) (v407 : BitVec 32) (k0_hw40 : k0_chk40 i v407), ∀ a, (k0_off41 i v407) a + S8x128.size a ≤ S2048x32000.size a := fun i v407 k0_hw40 => k0_hw40.2

def k0_mult41 (v417 : BitVec 32) : BitVec 32 :=
  v417

def k0_off42 (i : grid0.Coords) (v417 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c40_i32 : BitVec 32 := 40#32
  let v415 : BitVec 32 := Scalar.addi v2 c40_i32
  let v418 : BitVec 32 := v417
  ![v415.toNat, v418.toNat]

def k0_chk41 (i : grid0.Coords) (v417 : BitVec 32) : Prop :=
  (128 ∣ (k0_mult41 v417).toNat) ∧
  (∀ a, (k0_off42 i v417) a + S8x128.size a ≤ S2048x32000.size a)
theorem k0_mult41_dvd : ∀ (i : grid0.Coords) (v417 : BitVec 32) (k0_hw41 : k0_chk41 i v417), 128 ∣ (k0_mult41 v417).toNat := fun i v417 k0_hw41 => k0_hw41.1
theorem k0_off42_inb : ∀ (i : grid0.Coords) (v417 : BitVec 32) (k0_hw41 : k0_chk41 i v417), ∀ a, (k0_off42 i v417) a + S8x128.size a ≤ S2048x32000.size a := fun i v417 k0_hw41 => k0_hw41.2

def k0_mult42 (v427 : BitVec 32) : BitVec 32 :=
  v427

def k0_off43 (i : grid0.Coords) (v427 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c40_i32_208 : BitVec 32 := 40#32
  let v425 : BitVec 32 := Scalar.addi v2 c40_i32_208
  let v428 : BitVec 32 := v427
  ![v425.toNat, v428.toNat]

def k0_chk42 (i : grid0.Coords) (v427 : BitVec 32) : Prop :=
  (128 ∣ (k0_mult42 v427).toNat) ∧
  (∀ a, (k0_off43 i v427) a + S8x128.size a ≤ S2048x32000.size a)
theorem k0_mult42_dvd : ∀ (i : grid0.Coords) (v427 : BitVec 32) (k0_hw42 : k0_chk42 i v427), 128 ∣ (k0_mult42 v427).toNat := fun i v427 k0_hw42 => k0_hw42.1
theorem k0_off43_inb : ∀ (i : grid0.Coords) (v427 : BitVec 32) (k0_hw42 : k0_chk42 i v427), ∀ a, (k0_off43 i v427) a + S8x128.size a ≤ S2048x32000.size a := fun i v427 k0_hw42 => k0_hw42.2

def k0_mult43 (v437 : BitVec 32) : BitVec 32 :=
  v437

def k0_off44 (i : grid0.Coords) (v437 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c40_i32_213 : BitVec 32 := 40#32
  let v435 : BitVec 32 := Scalar.addi v2 c40_i32_213
  let v438 : BitVec 32 := v437
  ![v435.toNat, v438.toNat]

def k0_chk43 (i : grid0.Coords) (v437 : BitVec 32) : Prop :=
  (128 ∣ (k0_mult43 v437).toNat) ∧
  (∀ a, (k0_off44 i v437) a + S8x128.size a ≤ S2048x32000.size a)
theorem k0_mult43_dvd : ∀ (i : grid0.Coords) (v437 : BitVec 32) (k0_hw43 : k0_chk43 i v437), 128 ∣ (k0_mult43 v437).toNat := fun i v437 k0_hw43 => k0_hw43.1
theorem k0_off44_inb : ∀ (i : grid0.Coords) (v437 : BitVec 32) (k0_hw43 : k0_chk43 i v437), ∀ a, (k0_off44 i v437) a + S8x128.size a ≤ S2048x32000.size a := fun i v437 k0_hw43 => k0_hw43.2

def k0_mult44 (v447 : BitVec 32) : BitVec 32 :=
  v447

def k0_off45 (i : grid0.Coords) (v447 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c40_i32_218 : BitVec 32 := 40#32
  let v445 : BitVec 32 := Scalar.addi v2 c40_i32_218
  let v448 : BitVec 32 := v447
  ![v445.toNat, v448.toNat]

def k0_chk44 (i : grid0.Coords) (v447 : BitVec 32) : Prop :=
  (128 ∣ (k0_mult44 v447).toNat) ∧
  (∀ a, (k0_off45 i v447) a + S8x128.size a ≤ S2048x32000.size a)
theorem k0_mult44_dvd : ∀ (i : grid0.Coords) (v447 : BitVec 32) (k0_hw44 : k0_chk44 i v447), 128 ∣ (k0_mult44 v447).toNat := fun i v447 k0_hw44 => k0_hw44.1
theorem k0_off45_inb : ∀ (i : grid0.Coords) (v447 : BitVec 32) (k0_hw44 : k0_chk44 i v447), ∀ a, (k0_off45 i v447) a + S8x128.size a ≤ S2048x32000.size a := fun i v447 k0_hw44 => k0_hw44.2

def k0_mult45 (v457 : BitVec 32) : BitVec 32 :=
  v457

def k0_off46 (i : grid0.Coords) (v457 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c40_i32_223 : BitVec 32 := 40#32
  let v455 : BitVec 32 := Scalar.addi v2 c40_i32_223
  let v458 : BitVec 32 := v457
  ![v455.toNat, v458.toNat]

def k0_chk45 (i : grid0.Coords) (v457 : BitVec 32) : Prop :=
  (128 ∣ (k0_mult45 v457).toNat) ∧
  (∀ a, (k0_off46 i v457) a + S8x128.size a ≤ S2048x32000.size a)
theorem k0_mult45_dvd : ∀ (i : grid0.Coords) (v457 : BitVec 32) (k0_hw45 : k0_chk45 i v457), 128 ∣ (k0_mult45 v457).toNat := fun i v457 k0_hw45 => k0_hw45.1
theorem k0_off46_inb : ∀ (i : grid0.Coords) (v457 : BitVec 32) (k0_hw45 : k0_chk45 i v457), ∀ a, (k0_off46 i v457) a + S8x128.size a ≤ S2048x32000.size a := fun i v457 k0_hw45 => k0_hw45.2

def k0_mult46 (v467 : BitVec 32) : BitVec 32 :=
  v467

def k0_off47 (i : grid0.Coords) (v467 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c40_i32_228 : BitVec 32 := 40#32
  let v465 : BitVec 32 := Scalar.addi v2 c40_i32_228
  let v468 : BitVec 32 := v467
  ![v465.toNat, v468.toNat]

def k0_chk46 (i : grid0.Coords) (v467 : BitVec 32) : Prop :=
  (128 ∣ (k0_mult46 v467).toNat) ∧
  (∀ a, (k0_off47 i v467) a + S8x128.size a ≤ S2048x32000.size a)
theorem k0_mult46_dvd : ∀ (i : grid0.Coords) (v467 : BitVec 32) (k0_hw46 : k0_chk46 i v467), 128 ∣ (k0_mult46 v467).toNat := fun i v467 k0_hw46 => k0_hw46.1
theorem k0_off47_inb : ∀ (i : grid0.Coords) (v467 : BitVec 32) (k0_hw46 : k0_chk46 i v467), ∀ a, (k0_off47 i v467) a + S8x128.size a ≤ S2048x32000.size a := fun i v467 k0_hw46 => k0_hw46.2

def k0_mult47 (v477 : BitVec 32) : BitVec 32 :=
  v477

def k0_off48 (i : grid0.Coords) (v477 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c40_i32_233 : BitVec 32 := 40#32
  let v475 : BitVec 32 := Scalar.addi v2 c40_i32_233
  let v478 : BitVec 32 := v477
  ![v475.toNat, v478.toNat]

def k0_chk47 (i : grid0.Coords) (v477 : BitVec 32) : Prop :=
  (128 ∣ (k0_mult47 v477).toNat) ∧
  (∀ a, (k0_off48 i v477) a + S8x128.size a ≤ S2048x32000.size a)
theorem k0_mult47_dvd : ∀ (i : grid0.Coords) (v477 : BitVec 32) (k0_hw47 : k0_chk47 i v477), 128 ∣ (k0_mult47 v477).toNat := fun i v477 k0_hw47 => k0_hw47.1
theorem k0_off48_inb : ∀ (i : grid0.Coords) (v477 : BitVec 32) (k0_hw47 : k0_chk47 i v477), ∀ a, (k0_off48 i v477) a + S8x128.size a ≤ S2048x32000.size a := fun i v477 k0_hw47 => k0_hw47.2

def k0_mult48 (v487 : BitVec 32) : BitVec 32 :=
  v487

def k0_off49 (i : grid0.Coords) (v487 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c40_i32_238 : BitVec 32 := 40#32
  let v485 : BitVec 32 := Scalar.addi v2 c40_i32_238
  let v488 : BitVec 32 := v487
  ![v485.toNat, v488.toNat]

def k0_chk48 (i : grid0.Coords) (v487 : BitVec 32) : Prop :=
  (128 ∣ (k0_mult48 v487).toNat) ∧
  (∀ a, (k0_off49 i v487) a + S8x128.size a ≤ S2048x32000.size a)
theorem k0_mult48_dvd : ∀ (i : grid0.Coords) (v487 : BitVec 32) (k0_hw48 : k0_chk48 i v487), 128 ∣ (k0_mult48 v487).toNat := fun i v487 k0_hw48 => k0_hw48.1
theorem k0_off49_inb : ∀ (i : grid0.Coords) (v487 : BitVec 32) (k0_hw48 : k0_chk48 i v487), ∀ a, (k0_off49 i v487) a + S8x128.size a ≤ S2048x32000.size a := fun i v487 k0_hw48 => k0_hw48.2

def k0_mult49 (v501 : BitVec 32) : BitVec 32 :=
  v501

def k0_off50 (i : grid0.Coords) (v501 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c48_i32 : BitVec 32 := 48#32
  let v499 : BitVec 32 := Scalar.addi v2 c48_i32
  let v502 : BitVec 32 := v501
  ![v499.toNat, v502.toNat]

def k0_chk49 (i : grid0.Coords) (v501 : BitVec 32) : Prop :=
  (128 ∣ (k0_mult49 v501).toNat) ∧
  (∀ a, (k0_off50 i v501) a + S8x128.size a ≤ S2048x32000.size a)
theorem k0_mult49_dvd : ∀ (i : grid0.Coords) (v501 : BitVec 32) (k0_hw49 : k0_chk49 i v501), 128 ∣ (k0_mult49 v501).toNat := fun i v501 k0_hw49 => k0_hw49.1
theorem k0_off50_inb : ∀ (i : grid0.Coords) (v501 : BitVec 32) (k0_hw49 : k0_chk49 i v501), ∀ a, (k0_off50 i v501) a + S8x128.size a ≤ S2048x32000.size a := fun i v501 k0_hw49 => k0_hw49.2

def k0_mult50 (v511 : BitVec 32) : BitVec 32 :=
  v511

def k0_off51 (i : grid0.Coords) (v511 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c48_i32_249 : BitVec 32 := 48#32
  let v509 : BitVec 32 := Scalar.addi v2 c48_i32_249
  let v512 : BitVec 32 := v511
  ![v509.toNat, v512.toNat]

def k0_chk50 (i : grid0.Coords) (v511 : BitVec 32) : Prop :=
  (128 ∣ (k0_mult50 v511).toNat) ∧
  (∀ a, (k0_off51 i v511) a + S8x128.size a ≤ S2048x32000.size a)
theorem k0_mult50_dvd : ∀ (i : grid0.Coords) (v511 : BitVec 32) (k0_hw50 : k0_chk50 i v511), 128 ∣ (k0_mult50 v511).toNat := fun i v511 k0_hw50 => k0_hw50.1
theorem k0_off51_inb : ∀ (i : grid0.Coords) (v511 : BitVec 32) (k0_hw50 : k0_chk50 i v511), ∀ a, (k0_off51 i v511) a + S8x128.size a ≤ S2048x32000.size a := fun i v511 k0_hw50 => k0_hw50.2

def k0_mult51 (v521 : BitVec 32) : BitVec 32 :=
  v521

def k0_off52 (i : grid0.Coords) (v521 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c48_i32_254 : BitVec 32 := 48#32
  let v519 : BitVec 32 := Scalar.addi v2 c48_i32_254
  let v522 : BitVec 32 := v521
  ![v519.toNat, v522.toNat]

def k0_chk51 (i : grid0.Coords) (v521 : BitVec 32) : Prop :=
  (128 ∣ (k0_mult51 v521).toNat) ∧
  (∀ a, (k0_off52 i v521) a + S8x128.size a ≤ S2048x32000.size a)
theorem k0_mult51_dvd : ∀ (i : grid0.Coords) (v521 : BitVec 32) (k0_hw51 : k0_chk51 i v521), 128 ∣ (k0_mult51 v521).toNat := fun i v521 k0_hw51 => k0_hw51.1
theorem k0_off52_inb : ∀ (i : grid0.Coords) (v521 : BitVec 32) (k0_hw51 : k0_chk51 i v521), ∀ a, (k0_off52 i v521) a + S8x128.size a ≤ S2048x32000.size a := fun i v521 k0_hw51 => k0_hw51.2

def k0_mult52 (v531 : BitVec 32) : BitVec 32 :=
  v531

def k0_off53 (i : grid0.Coords) (v531 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c48_i32_259 : BitVec 32 := 48#32
  let v529 : BitVec 32 := Scalar.addi v2 c48_i32_259
  let v532 : BitVec 32 := v531
  ![v529.toNat, v532.toNat]

def k0_chk52 (i : grid0.Coords) (v531 : BitVec 32) : Prop :=
  (128 ∣ (k0_mult52 v531).toNat) ∧
  (∀ a, (k0_off53 i v531) a + S8x128.size a ≤ S2048x32000.size a)
theorem k0_mult52_dvd : ∀ (i : grid0.Coords) (v531 : BitVec 32) (k0_hw52 : k0_chk52 i v531), 128 ∣ (k0_mult52 v531).toNat := fun i v531 k0_hw52 => k0_hw52.1
theorem k0_off53_inb : ∀ (i : grid0.Coords) (v531 : BitVec 32) (k0_hw52 : k0_chk52 i v531), ∀ a, (k0_off53 i v531) a + S8x128.size a ≤ S2048x32000.size a := fun i v531 k0_hw52 => k0_hw52.2

def k0_mult53 (v541 : BitVec 32) : BitVec 32 :=
  v541

def k0_off54 (i : grid0.Coords) (v541 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c48_i32_264 : BitVec 32 := 48#32
  let v539 : BitVec 32 := Scalar.addi v2 c48_i32_264
  let v542 : BitVec 32 := v541
  ![v539.toNat, v542.toNat]

def k0_chk53 (i : grid0.Coords) (v541 : BitVec 32) : Prop :=
  (128 ∣ (k0_mult53 v541).toNat) ∧
  (∀ a, (k0_off54 i v541) a + S8x128.size a ≤ S2048x32000.size a)
theorem k0_mult53_dvd : ∀ (i : grid0.Coords) (v541 : BitVec 32) (k0_hw53 : k0_chk53 i v541), 128 ∣ (k0_mult53 v541).toNat := fun i v541 k0_hw53 => k0_hw53.1
theorem k0_off54_inb : ∀ (i : grid0.Coords) (v541 : BitVec 32) (k0_hw53 : k0_chk53 i v541), ∀ a, (k0_off54 i v541) a + S8x128.size a ≤ S2048x32000.size a := fun i v541 k0_hw53 => k0_hw53.2

def k0_mult54 (v551 : BitVec 32) : BitVec 32 :=
  v551

def k0_off55 (i : grid0.Coords) (v551 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c48_i32_269 : BitVec 32 := 48#32
  let v549 : BitVec 32 := Scalar.addi v2 c48_i32_269
  let v552 : BitVec 32 := v551
  ![v549.toNat, v552.toNat]

def k0_chk54 (i : grid0.Coords) (v551 : BitVec 32) : Prop :=
  (128 ∣ (k0_mult54 v551).toNat) ∧
  (∀ a, (k0_off55 i v551) a + S8x128.size a ≤ S2048x32000.size a)
theorem k0_mult54_dvd : ∀ (i : grid0.Coords) (v551 : BitVec 32) (k0_hw54 : k0_chk54 i v551), 128 ∣ (k0_mult54 v551).toNat := fun i v551 k0_hw54 => k0_hw54.1
theorem k0_off55_inb : ∀ (i : grid0.Coords) (v551 : BitVec 32) (k0_hw54 : k0_chk54 i v551), ∀ a, (k0_off55 i v551) a + S8x128.size a ≤ S2048x32000.size a := fun i v551 k0_hw54 => k0_hw54.2

def k0_mult55 (v561 : BitVec 32) : BitVec 32 :=
  v561

def k0_off56 (i : grid0.Coords) (v561 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c48_i32_274 : BitVec 32 := 48#32
  let v559 : BitVec 32 := Scalar.addi v2 c48_i32_274
  let v562 : BitVec 32 := v561
  ![v559.toNat, v562.toNat]

def k0_chk55 (i : grid0.Coords) (v561 : BitVec 32) : Prop :=
  (128 ∣ (k0_mult55 v561).toNat) ∧
  (∀ a, (k0_off56 i v561) a + S8x128.size a ≤ S2048x32000.size a)
theorem k0_mult55_dvd : ∀ (i : grid0.Coords) (v561 : BitVec 32) (k0_hw55 : k0_chk55 i v561), 128 ∣ (k0_mult55 v561).toNat := fun i v561 k0_hw55 => k0_hw55.1
theorem k0_off56_inb : ∀ (i : grid0.Coords) (v561 : BitVec 32) (k0_hw55 : k0_chk55 i v561), ∀ a, (k0_off56 i v561) a + S8x128.size a ≤ S2048x32000.size a := fun i v561 k0_hw55 => k0_hw55.2

def k0_mult56 (v571 : BitVec 32) : BitVec 32 :=
  v571

def k0_off57 (i : grid0.Coords) (v571 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c48_i32_279 : BitVec 32 := 48#32
  let v569 : BitVec 32 := Scalar.addi v2 c48_i32_279
  let v572 : BitVec 32 := v571
  ![v569.toNat, v572.toNat]

def k0_chk56 (i : grid0.Coords) (v571 : BitVec 32) : Prop :=
  (128 ∣ (k0_mult56 v571).toNat) ∧
  (∀ a, (k0_off57 i v571) a + S8x128.size a ≤ S2048x32000.size a)
theorem k0_mult56_dvd : ∀ (i : grid0.Coords) (v571 : BitVec 32) (k0_hw56 : k0_chk56 i v571), 128 ∣ (k0_mult56 v571).toNat := fun i v571 k0_hw56 => k0_hw56.1
theorem k0_off57_inb : ∀ (i : grid0.Coords) (v571 : BitVec 32) (k0_hw56 : k0_chk56 i v571), ∀ a, (k0_off57 i v571) a + S8x128.size a ≤ S2048x32000.size a := fun i v571 k0_hw56 => k0_hw56.2

def k0_mult57 (v581 : BitVec 32) : BitVec 32 :=
  v581

def k0_off58 (i : grid0.Coords) (v581 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c56_i32 : BitVec 32 := 56#32
  let v579 : BitVec 32 := Scalar.addi v2 c56_i32
  let v582 : BitVec 32 := v581
  ![v579.toNat, v582.toNat]

def k0_chk57 (i : grid0.Coords) (v581 : BitVec 32) : Prop :=
  (128 ∣ (k0_mult57 v581).toNat) ∧
  (∀ a, (k0_off58 i v581) a + S8x128.size a ≤ S2048x32000.size a)
theorem k0_mult57_dvd : ∀ (i : grid0.Coords) (v581 : BitVec 32) (k0_hw57 : k0_chk57 i v581), 128 ∣ (k0_mult57 v581).toNat := fun i v581 k0_hw57 => k0_hw57.1
theorem k0_off58_inb : ∀ (i : grid0.Coords) (v581 : BitVec 32) (k0_hw57 : k0_chk57 i v581), ∀ a, (k0_off58 i v581) a + S8x128.size a ≤ S2048x32000.size a := fun i v581 k0_hw57 => k0_hw57.2

def k0_mult58 (v591 : BitVec 32) : BitVec 32 :=
  v591

def k0_off59 (i : grid0.Coords) (v591 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c56_i32_289 : BitVec 32 := 56#32
  let v589 : BitVec 32 := Scalar.addi v2 c56_i32_289
  let v592 : BitVec 32 := v591
  ![v589.toNat, v592.toNat]

def k0_chk58 (i : grid0.Coords) (v591 : BitVec 32) : Prop :=
  (128 ∣ (k0_mult58 v591).toNat) ∧
  (∀ a, (k0_off59 i v591) a + S8x128.size a ≤ S2048x32000.size a)
theorem k0_mult58_dvd : ∀ (i : grid0.Coords) (v591 : BitVec 32) (k0_hw58 : k0_chk58 i v591), 128 ∣ (k0_mult58 v591).toNat := fun i v591 k0_hw58 => k0_hw58.1
theorem k0_off59_inb : ∀ (i : grid0.Coords) (v591 : BitVec 32) (k0_hw58 : k0_chk58 i v591), ∀ a, (k0_off59 i v591) a + S8x128.size a ≤ S2048x32000.size a := fun i v591 k0_hw58 => k0_hw58.2

def k0_mult59 (v601 : BitVec 32) : BitVec 32 :=
  v601

def k0_off60 (i : grid0.Coords) (v601 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c56_i32_294 : BitVec 32 := 56#32
  let v599 : BitVec 32 := Scalar.addi v2 c56_i32_294
  let v602 : BitVec 32 := v601
  ![v599.toNat, v602.toNat]

def k0_chk59 (i : grid0.Coords) (v601 : BitVec 32) : Prop :=
  (128 ∣ (k0_mult59 v601).toNat) ∧
  (∀ a, (k0_off60 i v601) a + S8x128.size a ≤ S2048x32000.size a)
theorem k0_mult59_dvd : ∀ (i : grid0.Coords) (v601 : BitVec 32) (k0_hw59 : k0_chk59 i v601), 128 ∣ (k0_mult59 v601).toNat := fun i v601 k0_hw59 => k0_hw59.1
theorem k0_off60_inb : ∀ (i : grid0.Coords) (v601 : BitVec 32) (k0_hw59 : k0_chk59 i v601), ∀ a, (k0_off60 i v601) a + S8x128.size a ≤ S2048x32000.size a := fun i v601 k0_hw59 => k0_hw59.2

def k0_mult60 (v611 : BitVec 32) : BitVec 32 :=
  v611

def k0_off61 (i : grid0.Coords) (v611 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c56_i32_299 : BitVec 32 := 56#32
  let v609 : BitVec 32 := Scalar.addi v2 c56_i32_299
  let v612 : BitVec 32 := v611
  ![v609.toNat, v612.toNat]

def k0_chk60 (i : grid0.Coords) (v611 : BitVec 32) : Prop :=
  (128 ∣ (k0_mult60 v611).toNat) ∧
  (∀ a, (k0_off61 i v611) a + S8x128.size a ≤ S2048x32000.size a)
theorem k0_mult60_dvd : ∀ (i : grid0.Coords) (v611 : BitVec 32) (k0_hw60 : k0_chk60 i v611), 128 ∣ (k0_mult60 v611).toNat := fun i v611 k0_hw60 => k0_hw60.1
theorem k0_off61_inb : ∀ (i : grid0.Coords) (v611 : BitVec 32) (k0_hw60 : k0_chk60 i v611), ∀ a, (k0_off61 i v611) a + S8x128.size a ≤ S2048x32000.size a := fun i v611 k0_hw60 => k0_hw60.2

def k0_mult61 (v621 : BitVec 32) : BitVec 32 :=
  v621

def k0_off62 (i : grid0.Coords) (v621 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c56_i32_304 : BitVec 32 := 56#32
  let v619 : BitVec 32 := Scalar.addi v2 c56_i32_304
  let v622 : BitVec 32 := v621
  ![v619.toNat, v622.toNat]

def k0_chk61 (i : grid0.Coords) (v621 : BitVec 32) : Prop :=
  (128 ∣ (k0_mult61 v621).toNat) ∧
  (∀ a, (k0_off62 i v621) a + S8x128.size a ≤ S2048x32000.size a)
theorem k0_mult61_dvd : ∀ (i : grid0.Coords) (v621 : BitVec 32) (k0_hw61 : k0_chk61 i v621), 128 ∣ (k0_mult61 v621).toNat := fun i v621 k0_hw61 => k0_hw61.1
theorem k0_off62_inb : ∀ (i : grid0.Coords) (v621 : BitVec 32) (k0_hw61 : k0_chk61 i v621), ∀ a, (k0_off62 i v621) a + S8x128.size a ≤ S2048x32000.size a := fun i v621 k0_hw61 => k0_hw61.2

def k0_mult62 (v631 : BitVec 32) : BitVec 32 :=
  v631

def k0_off63 (i : grid0.Coords) (v631 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c56_i32_309 : BitVec 32 := 56#32
  let v629 : BitVec 32 := Scalar.addi v2 c56_i32_309
  let v632 : BitVec 32 := v631
  ![v629.toNat, v632.toNat]

def k0_chk62 (i : grid0.Coords) (v631 : BitVec 32) : Prop :=
  (128 ∣ (k0_mult62 v631).toNat) ∧
  (∀ a, (k0_off63 i v631) a + S8x128.size a ≤ S2048x32000.size a)
theorem k0_mult62_dvd : ∀ (i : grid0.Coords) (v631 : BitVec 32) (k0_hw62 : k0_chk62 i v631), 128 ∣ (k0_mult62 v631).toNat := fun i v631 k0_hw62 => k0_hw62.1
theorem k0_off63_inb : ∀ (i : grid0.Coords) (v631 : BitVec 32) (k0_hw62 : k0_chk62 i v631), ∀ a, (k0_off63 i v631) a + S8x128.size a ≤ S2048x32000.size a := fun i v631 k0_hw62 => k0_hw62.2

def k0_mult63 (v641 : BitVec 32) : BitVec 32 :=
  v641

def k0_off64 (i : grid0.Coords) (v641 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c56_i32_314 : BitVec 32 := 56#32
  let v639 : BitVec 32 := Scalar.addi v2 c56_i32_314
  let v642 : BitVec 32 := v641
  ![v639.toNat, v642.toNat]

def k0_chk63 (i : grid0.Coords) (v641 : BitVec 32) : Prop :=
  (128 ∣ (k0_mult63 v641).toNat) ∧
  (∀ a, (k0_off64 i v641) a + S8x128.size a ≤ S2048x32000.size a)
theorem k0_mult63_dvd : ∀ (i : grid0.Coords) (v641 : BitVec 32) (k0_hw63 : k0_chk63 i v641), 128 ∣ (k0_mult63 v641).toNat := fun i v641 k0_hw63 => k0_hw63.1
theorem k0_off64_inb : ∀ (i : grid0.Coords) (v641 : BitVec 32) (k0_hw63 : k0_chk63 i v641), ∀ a, (k0_off64 i v641) a + S8x128.size a ≤ S2048x32000.size a := fun i v641 k0_hw63 => k0_hw63.2

def k0_mult64 (v651 : BitVec 32) : BitVec 32 :=
  v651

def k0_off65 (i : grid0.Coords) (v651 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c56_i32_319 : BitVec 32 := 56#32
  let v649 : BitVec 32 := Scalar.addi v2 c56_i32_319
  let v652 : BitVec 32 := v651
  ![v649.toNat, v652.toNat]

def k0_chk64 (i : grid0.Coords) (v651 : BitVec 32) : Prop :=
  (128 ∣ (k0_mult64 v651).toNat) ∧
  (∀ a, (k0_off65 i v651) a + S8x128.size a ≤ S2048x32000.size a)
theorem k0_mult64_dvd : ∀ (i : grid0.Coords) (v651 : BitVec 32) (k0_hw64 : k0_chk64 i v651), 128 ∣ (k0_mult64 v651).toNat := fun i v651 k0_hw64 => k0_hw64.1
theorem k0_off65_inb : ∀ (i : grid0.Coords) (v651 : BitVec 32) (k0_hw64 : k0_chk64 i v651), ∀ a, (k0_off65 i v651) a + S8x128.size a ≤ S2048x32000.size a := fun i v651 k0_hw64 => k0_hw64.2

def k0_chk65 (v1046 : IVec S16 32) (v1049 : IVec S16 32) (v1052 : IVec S16 32) : Prop :=
  (∀ a x, ((![v1049, v1052, v1046] : Fin 3 → IVec S16 32) a x).toNat < S64x8x128.size a)
theorem k0_idx1_inb : ∀ (v1046 : IVec S16 32) (v1049 : IVec S16 32) (v1052 : IVec S16 32) (k0_hw65 : k0_chk65 v1046 v1049 v1052), ∀ a x, ((![v1049, v1052, v1046] : Fin 3 → IVec S16 32) a x).toNat < S64x8x128.size a := fun v1046 v1049 v1052 k0_hw65 => k0_hw65

def k0_chk66 (v1063 : IVec S16 32) (v1066 : IVec S16 32) (v1069 : IVec S16 32) : Prop :=
  (∀ a x, ((![v1066, v1069, v1063] : Fin 3 → IVec S16 32) a x).toNat < S64x8x128.size a)
theorem k0_idx2_inb : ∀ (v1063 : IVec S16 32) (v1066 : IVec S16 32) (v1069 : IVec S16 32) (k0_hw66 : k0_chk66 v1063 v1066 v1069), ∀ a x, ((![v1066, v1069, v1063] : Fin 3 → IVec S16 32) a x).toNat < S64x8x128.size a := fun v1063 v1066 v1069 k0_hw66 => k0_hw66

def k0_chk67 (v1080 : IVec S16 32) (v1083 : IVec S16 32) (v1086 : IVec S16 32) : Prop :=
  (∀ a x, ((![v1083, v1086, v1080] : Fin 3 → IVec S16 32) a x).toNat < S64x8x128.size a)
theorem k0_idx3_inb : ∀ (v1080 : IVec S16 32) (v1083 : IVec S16 32) (v1086 : IVec S16 32) (k0_hw67 : k0_chk67 v1080 v1083 v1086), ∀ a x, ((![v1083, v1086, v1080] : Fin 3 → IVec S16 32) a x).toNat < S64x8x128.size a := fun v1080 v1083 v1086 k0_hw67 => k0_hw67

def k0_chk68 (v1097 : IVec S16 32) (v1100 : IVec S16 32) (v1103 : IVec S16 32) : Prop :=
  (∀ a x, ((![v1100, v1103, v1097] : Fin 3 → IVec S16 32) a x).toNat < S64x8x128.size a)
theorem k0_idx4_inb : ∀ (v1097 : IVec S16 32) (v1100 : IVec S16 32) (v1103 : IVec S16 32) (k0_hw68 : k0_chk68 v1097 v1100 v1103), ∀ a x, ((![v1100, v1103, v1097] : Fin 3 → IVec S16 32) a x).toNat < S64x8x128.size a := fun v1097 v1100 v1103 k0_hw68 => k0_hw68
def k0_off66 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_930 : BitVec 32 := 16#32
  let v1115 : BitVec 32 := Scalar.muli v1 c16_i32_930
  ![v1115.toNat]
abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x32000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x32 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "conf_less_redist" => some ((287981 / 319980 : ℝ) : EReal)
  | "k_const" => some (((1 / 10) * (Real.log (129140163 / 106660000000000)) : ℝ) : EReal)
  | "redist" => some ((1 / 319980 : ℝ) : EReal)
  | _ => none
-- ==== ReferenceIdeal.lean ====
abbrev S2048x32000 : Shape := ⟨2, ![2048, 32000]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S1 : Shape := ⟨1, ![1]⟩

abbrev nBuf : Space → Nat
  | .hbm => 63
  | .vmem => 0
  | .smem => 0
  | _ => 0

abbrev bufTy : (tb : Table) → Fin (tcTables nBuf tb) → BufTy
  | .hbm, ⟨0, _⟩ => ⟨S2048x32000, .f32⟩
  | .hbm, ⟨1, _⟩ => ⟨S2048, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x32000, .f32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048x1, .i32⟩
  | .hbm, ⟨26, _⟩ => ⟨S2048x1, .i32⟩
  | .hbm, ⟨27, _⟩ => ⟨S2048x2, .i32⟩
  | .hbm, ⟨28, _⟩ => ⟨S2048, .f32⟩
  | .hbm, ⟨29, _⟩ => ⟨S2048x32000, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S2048, .f32⟩
  | .hbm, ⟨34, _⟩ => ⟨S2048x32000, .f32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S2048x1, .i1⟩
  | .hbm, ⟨39, _⟩ => ⟨S_, .f32⟩
  | .hbm, ⟨40, _⟩ => ⟨S_, .f32⟩
  | .hbm, ⟨41, _⟩ => ⟨S2048x32000, .i1⟩
  | .hbm, ⟨42, _⟩ => ⟨S2048x32000, .f32⟩
  | .hbm, ⟨43, _⟩ => ⟨S2048x32000, .f32⟩
  | .hbm, ⟨44, _⟩ => ⟨S_, .f32⟩
  | .hbm, ⟨45, _⟩ => ⟨S2048x32000, .f32⟩
  | .hbm, ⟨46, _⟩ => ⟨S2048x32000, .i1⟩
  | .hbm, ⟨47, _⟩ => ⟨S_, .f32⟩
  | .hbm, ⟨48, _⟩ => ⟨S2048x32000, .f32⟩
  | .hbm, ⟨49, _⟩ => ⟨S2048x32000, .i1⟩
  | .hbm, ⟨50, _⟩ => ⟨S_, .f32⟩
  | .hbm, ⟨51, _⟩ => ⟨S_, .f32⟩
  | .hbm, ⟨52, _⟩ => ⟨S2048x32000, .f32⟩
  | .hbm, ⟨53, _⟩ => ⟨S2048x32000, .f32⟩
  | .hbm, ⟨54, _⟩ => ⟨S2048x32000, .f32⟩
  | .hbm, ⟨55, _⟩ => ⟨S2048x32000, .f32⟩
  | .hbm, ⟨56, _⟩ => ⟨S2048x32000, .f32⟩
  | .hbm, ⟨57, _⟩ => ⟨S_, .f32⟩
  | .hbm, ⟨58, _⟩ => ⟨S_, .f32⟩
  | .hbm, ⟨59, _⟩ => ⟨S2048x32000, .f32⟩
  | .hbm, ⟨60, _⟩ => ⟨S2048x32000, .f32⟩
  | .hbm, ⟨61, _⟩ => ⟨S_, .f32⟩
  | .hbm, ⟨62, _⟩ => ⟨S_, .f32⟩
  | _, _ => ⟨S2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_cst_11 : Ref sig .tc := ⟨.hbm, 47, rfl⟩
abbrev main_v29 : Ref sig .tc := ⟨.hbm, 48, rfl⟩
abbrev main_v30 : Ref sig .tc := ⟨.hbm, 49, rfl⟩
abbrev main_cst_12 : Ref sig .tc := ⟨.hbm, 50, rfl⟩
abbrev main_call1_v0 : Ref sig .tc := ⟨.hbm, 51, rfl⟩
abbrev main_call1_v1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_13 : Ref sig .tc := ⟨.hbm, 57, rfl⟩
abbrev main_call2_v0 : Ref sig .tc := ⟨.hbm, 58, rfl⟩
abbrev main_call2_v1 : Ref sig .tc := ⟨.hbm, 59, rfl⟩
abbrev main_v35 : Ref sig .tc := ⟨.hbm, 60, rfl⟩
abbrev main_cst_14 : Ref sig .tc := ⟨.hbm, 61, rfl⟩
abbrev main_v36 : Ref sig .tc := ⟨.hbm, 62, rfl⟩

abbrev nD : Nat := 1
abbrev τ : Topo := Topo.v7x

variable {F : FTy → Type} [FloatOps F]
-- ==== Proof.Canon.lean ====
/-
  The SparseCore kernel as a few loops.

  The printed body of the gather kernel is one straight line: it fetches its 64 tokens, issues 64 block copies, waits
  for the 64, gathers four times and writes sixteen sums out. Here the same line is written with the copy, the wait and
  the gather each said once, at its number, and the line is shown to BE those repeated (`body_eq`, by unfolding both).
  Everything after this module reasons about the repeated form.
-/
module

public import proofs.«01_k».proof.Proof.Gen.KernelIdeal

@[expose] public section

noncomputable section

namespace Cert.Proof.Canon

open Cert.KernelIdeal Cert.KernelIdeal.Gen
open Idealize.ShloMosaic Idealize.SL.Sem

variable {F : FTy → Type} [FloatOps F] [Named F]

/-- The programs a vector subcore runs in this kernel. -/
abbrev TileProg (i : grid0.Coords) (α : Type) : Type 1 := Prog (TpuEff nD τ sig (Elt F) Λ₀ (.scVector ((i 0).castLE hcore0) ((i 1).castLE hsub0))) α

/-- The subcore's number, as the words the kernel computes it with. -/
def widW (i : grid0.Coords) : BitVec 32 := Scalar.addi (Scalar.muli (BitVec.ofNat 32 (i 1).val) 2#32) (BitVec.ofNat 32 (i 0).val)

/-- Where copy `j` reads `x`: the group of eight rows row `j` of this subcore lies in, at the column word. -/
def srcOff (i : grid0.Coords) (j : Fin 64) (v : BitVec 32) : Fin 2 → Nat :=
  ![(Scalar.addi (Scalar.muli (widW i) 64#32) (BitVec.ofNat 32 (8 * (j.val / 8)))).toNat, v.toNat]

/-- What copy `j`'s column word is checked for. -/
def chk (i : grid0.Coords) (j : Fin 64) (v : BitVec 32) : Prop :=
  (128 ∣ v.toNat) ∧ (∀ a, (srcOff i j v) a + S8x128.size a ≤ S2048x32000.size a)

instance chkDec (i : grid0.Coords) (j : Fin 64) (v : BitVec 32) : Decidable (chk i j v) :=
  decidable_of_iff' _ (Iff.of_eq (chk.eq_1 i j v))

theorem rowInb (j : Fin 64) : ∀ a, (![j.val, 0, 0] : Fin 3 → Nat) a + S1x8x128.size a ≤ S64x8x128.size a := by
  intro a
  have hj := j.isLt
  match a with
  | 0 => show j.val + 1 ≤ 64; omega
  | 1 => show 0 + 8 ≤ 8; omega
  | 2 => show 0 + 128 ≤ 128; omega

/-- Block `j` of the row scratch, as an 8 × 128 array. -/
abbrev rowRef (rows : Memref sig .scVector .vmem S64x8x128 .f32) (j : Fin 64) : Memref sig .scVector .vmem S8x128 .f32 :=
  (rows.slice (Rect.unit (s := S64x8x128) ![j.val, 0, 0] S1x8x128.size (rowInb j)) (fun _ => rfl)).squeeze S8x128 squeezes_S1x8x128_S8x128

/-- The block of `x` copy `j` reads. -/
abbrev srcRef (i : grid0.Coords) (x : Memref sig .scVector .hbm S2048x32000 .f32) (j : Fin 64) (v : BitVec 32) (h : chk i j v) :
    Memref sig .scVector .hbm S8x128 .f32 :=
  x.slice (Rect.unit (s := S2048x32000) (srcOff i j v) S8x128.size h.2) (fun _ => rfl)

/-- Copy `j`: the check of its column word, then the copy's start. -/
def issue (i : grid0.Coords) (x : Memref sig .scVector .hbm S2048x32000 .f32) (rows : Memref sig .scVector .vmem S64x8x128 .f32)
    (sem : DmaSems sig S_) (j : Fin 64) (v : BitVec 32) : TileProg (F := F) i PUnit := do
  have h : chk i j v := (← Prog.lift (TpuEff.assume (chk i j v) (chkDec i j v))).down
  Prog.lift (.enqueueDma (srcRef i x j v h) (.here (rowRef rows j)) (.dma sem.sem) (View.wordExact_bits rfl)
    ((View.wordExact_bits rfl).reshape _ _) ⟨Or.inl rfl, trivial⟩)

/-- The wait for copy `j`. -/
def waitRow (i : grid0.Coords) (x : Memref sig .scVector .hbm S2048x32000 .f32) (rows : Memref sig .scVector .vmem S64x8x128 .f32)
    (sem : DmaSems sig S_) (j : Fin 64) : TileProg (F := F) i PUnit :=
  Prog.lift (.waitDma2 sem.sem (x.slice (Rect.unit (s := S2048x32000) ![0, 0] S8x128.size inb_S2048x32000_S8x128_0_0) (fun _ => rfl))
    (rowRef rows j) (View.wordExact_bits rfl) ((View.wordExact_bits rfl).reshape _ _))

/-- `f` at `j`, `j + 1`, …, `j + n - 1`, in order. -/
def forFrom {i : grid0.Coords} (f : Fin 64 → TileProg (F := F) i PUnit) : (n j : ℕ) → j + n ≤ 64 → TileProg (F := F) i PUnit
  | 0, _, _ => pure ⟨⟩
  | n + 1, j, h => do
    f ⟨j, by omega⟩
    forFrom f n (j + 1) (by omega)

theorem slicesLane (l : Fin 16) : S16.Slices ![l.val] S1 := ⟨rfl, fun a => by
  have hl := l.isLt
  match a with
  | 0 => show l.val + 1 ≤ 16; omega⟩

/-- Lane `l` of sixteen tokens, rounded down to a multiple of 128: the column word of a copy. -/
def colWord (tv : Vec F S16 .i32) (l : Fin 16) : BitVec 32 :=
  extractAt ![0] (extractStridedSlice S1 ![l.val] (subi tv (andi tv (broadcast S16 127#32)) : IVec S16 32) (slicesLane l)) inpos_S1_p0

theorem inbLane (g : Fin 4) : ∀ a, (![16 * g.val] : Fin 1 → Nat) a + S16.size a ≤ S64.size a := by
  intro a
  have hg := g.isLt
  match a with
  | 0 => show 16 * g.val + 16 ≤ 64; omega

/-- Group `g`'s sixteen tokens, loaded. -/
def loadTok (i : grid0.Coords) (tok : Memref sig .scVector .vmem S64 .i32) (g : Fin 4) : TileProg (F := F) i (Vec F S16 .i32) :=
  Prog.lift (.load tok (Rect.unit (s := S64) ![16 * g.val] S16.size (inbLane g)).toLoadRect (View.loadsAt_vmem h_S16))

/-- Group `g`'s sixteen copies: its tokens loaded, and a copy per lane. -/
def issueGroup (i : grid0.Coords) (x : Memref sig .scVector .hbm S2048x32000 .f32) (tok : Memref sig .scVector .vmem S64 .i32)
    (rows : Memref sig .scVector .vmem S64x8x128 .f32) (sem : DmaSems sig S_) (g : Fin 4) : TileProg (F := F) i PUnit := do
  let tv ← loadTok i tok g
  forFrom (fun j => issue i x rows sem j (colWord tv ⟨j.val % 16, Nat.mod_lt _ (by decide)⟩)) 16 (16 * g.val) (by omega)

/-- The three index vectors of group `g`'s gather: the copy's number, the row within its block, the column within it. -/
def rowIx (g : Fin 4) : IVec S16 32 := addi (broadcast S16 (BitVec.ofNat 32 (16 * g.val))) (iota .scVector S16 32 [0] iota_S16_d0_w32_scVector)
def subIx : IVec S16 32 := andi (iota .scVector S16 32 [0] iota_S16_d0_w32_scVector) (broadcast S16 7#32)
def laneIx (tv : Vec F S16 .i32) : IVec S16 32 := andi tv (broadcast S16 127#32)

/-- What a gather's index vectors are checked for. -/
def chkG (a b c : IVec S16 32) : Prop := ∀ k x, ((![b, c, a] : Fin 3 → IVec S16 32) k x).toNat < S64x8x128.size k
instance chkGDec (a b c : IVec S16 32) : Decidable (chkG a b c) := decidable_of_iff' _ (Iff.of_eq (chkG.eq_1 a b c))

/-- The sum of one more group: a lane whose token is nonzero adds the gathered element, another adds zero times it. -/
def accStep (acc : FVec F S16 .f32) (tv : Vec F S16 .i32) (gv : Vec F S16 .f32) : FVec F S16 .f32 :=
  addf acc (mulf (select (cmpi .ne tv (broadcast S16 0#32) : IVec S16 1) (broadcast S16 (Scalar.ofBits .f32 0x3F800000#32 : F .f32))
    (broadcast S16 (Scalar.ofBits .f32 0x00000000#32 : F .f32)) : FVec F S16 .f32) gv)

/-- Group `g` gathered and added. -/
def gatherGroup (i : grid0.Coords) (tok : Memref sig .scVector .vmem S64 .i32)
    (rows : Memref sig .scVector .vmem S64x8x128 .f32) (g : Fin 4) (acc : FVec F S16 .f32) : TileProg (F := F) i (FVec F S16 .f32) := do
  let tv ← loadTok i tok g
  have h : chkG (laneIx tv) (rowIx g) subIx := (← Prog.lift (TpuEff.assume (chkG (laneIx tv) (rowIx g) subIx) (chkGDec _ _ _))).down
  let gv ← SparseCore.vectorLoadIdx rows ![rowIx g, subIx, laneIx tv] h (View.loads_vmem h_S64x8x128)
  pure (accStep acc tv gv)

/-- The sums before the first group. -/
def acc0 : FVec F S16 .f32 := broadcast S16 (Scalar.ofBits .f32 0x00000000#32 : F .f32)

/-- The sixteen words written out: the sums, scaled. -/
def scaled (acc : FVec F S16 .f32) : FVec F S16 .f32 := mulf (broadcast S16 (Named.named κ "conf_less_redist" 0x3F666632#32 : F .f32)) acc

/-- The whole kernel on one subcore. -/
def body (i : grid0.Coords) (x : Memref sig .scVector .hbm S2048x32000 .f32)
    (tgt : Memref sig .scVector .hbm S2048 .i32) (out : Memref sig .scVector .hbm S512 .f32)
    (tok : Memref sig .scVector .vmem S64 .i32) (htok : tok.IsWhole) (rows : Memref sig .scVector .vmem S64x8x128 .f32)
    (acc : Memref sig .scVector .vmem S16 .f32) (hacc : acc.IsWhole) (sem semA semB : DmaSems sig S_) : TileProg (F := F) i PUnit := do
  Prog.lift (.enqueueDma (tgt.slice (Rect.unit (s := S2048) (k0_off1 i) S64.size (k0_off1_inb i)) (fun _ => rfl)) (.here tok) (.dma semA.sem)
    (View.wordExact_bits rfl) htok.wordExact ⟨Or.inl rfl, trivial⟩)
  Prog.lift (.waitDma2 semA.sem (tgt.slice (Rect.unit (s := S2048) (k0_off1 i) S64.size (k0_off1_inb i)) (fun _ => rfl)) tok
    (View.wordExact_bits rfl) htok.wordExact)
  issueGroup i x tok rows sem 0
  issueGroup i x tok rows sem 1
  issueGroup i x tok rows sem 2
  issueGroup i x tok rows sem 3
  forFrom (waitRow i x rows sem) 64 0 (by omega)
  let s1 ← gatherGroup i tok rows 0 acc0
  let s2 ← gatherGroup i tok rows 1 s1
  let s3 ← gatherGroup i tok rows 2 s2
  let s4 ← gatherGroup i tok rows 3 s3
  let _ ← Prog.lift (.load acc (Rect.unit (s := S16) ![0] S16.size inb_S16_S16_0).toLoadRect (View.loadsAt_vmem h_S16))
  Prog.lift (.store acc (Rect.unit (s := S16) ![0] S16.size inb_S16_S16_0) (scaled s4) Finset.univ (View.stores_vmem_bits_univ h_S16 rfl) (.inl rfl))
  Prog.lift (.enqueueDma acc (.here (out.slice (Rect.unit (s := S512) (k0_off66 i) S16.size (k0_off66_inb i)) (fun _ => rfl))) (.dma semB.sem)
    hacc.wordExact (View.wordExact_bits rfl) ⟨Or.inl rfl, trivial⟩)
  Prog.lift (.waitDma2 semB.sem acc (out.slice (Rect.unit (s := S512) (k0_off66 i) S16.size (k0_off66_inb i)) (fun _ => rfl))
    hacc.wordExact (View.wordExact_bits rfl))
  pure ⟨⟩

set_option maxHeartbeats 0 in
set_option maxRecDepth 100000 in
/-- The printed kernel is the repeated form. -/
theorem body_eq (i : grid0.Coords) (x : Memref sig .scVector .hbm S2048x32000 .f32) (hx : x.IsWhole)
    (tgt : Memref sig .scVector .hbm S2048 .i32) (htgt : tgt.IsWhole) (out : Memref sig .scVector .hbm S512 .f32) (hout : out.IsWhole)
    (tok : Memref sig .scVector .vmem S64 .i32) (htok : tok.IsWhole) (rows : Memref sig .scVector .vmem S64x8x128 .f32) (hrows : rows.IsWhole)
    (acc : Memref sig .scVector .vmem S16 .f32) (hacc : acc.IsWhole) (sem semA semB : DmaSems sig S_) :
    cc0__sc_gather_kernel (F := F) i x hx tgt htgt out hout tok htok rows hrows acc hacc sem semA semB
      = body i x tgt out tok htok rows acc hacc sem semA semB := rfl

end Cert.Proof.Canon

end
-- ==== Proof.Values.lean ====
/-
  What the SparseCore kernel computes, as plain functions of `x` and the tokens.

  Subcore `w` of the 32 has the 64 rows from `64 w`; copy `j` brings it a block of eight rows by 128 columns that row
  `64 w + j` lies in, at the columns its token lies in. The gathers then pick each row's element at its token, and
  sixteen sums of four such elements, scaled, are the subcore's output.
-/
module

public import proofs.«01_k».proof.Proof.Canon
public import Idealize.ShloMosaic.Lib.ValueIdxCore
public import Idealize.ShloMosaic.Lib.ValueIdxCoords

@[expose] public section

noncomputable section

namespace Cert.Proof.Values

open Cert.KernelIdeal Cert.KernelIdeal.Gen Cert.Proof.Canon
open Idealize.ShloMosaic Idealize.ShloMosaic.ValueIdx

variable {F : FTy → Type} [FloatOps F] [Named F]

/-! ## Rows and tokens -/

/-- Row `j` of subcore `w`, among the 2048. -/
def rowOf (w : Fin 32) (j : Fin 64) : Fin 2048 := ⟨64 * w.val + j.val, by omega⟩

/-- Lane `l` of group `g`, among a subcore's 64 rows. -/
def laneOf (g : Fin 4) (l : Fin 16) : Fin 64 := ⟨16 * g.val + l.val, by omega⟩

/-- The token of row `j` of subcore `w`. -/
def tokOf (t : IVec S2048 32) (w : Fin 32) (j : Fin 64) : BitVec 32 := t (ix1 (rowOf w j))

/-- The column a token names (a token below 32000 names itself). -/
def colOf (v : BitVec 32) : Fin 32000 := ⟨v.toNat % 32000, Nat.mod_lt _ (by decide)⟩

/-- A token rounded down to a multiple of 128. -/
def baseCol (v : BitVec 32) : BitVec 32 := v - (v &&& 127#32)

/-- The element of `x` a row picks at its token. -/
def picked (x : FVec F S2048x32000 .f32) (t : IVec S2048 32) (r : Fin 2048) : F .f32 := x (ix2 r (colOf (t (ix1 r))))

/-- Group `g`'s sixteen tokens. -/
def tokVec (t : IVec S2048 32) (w : Fin 32) (g : Fin 4) : IVec S16 32 := fun k => tokOf t w (laneOf g (k 0))

/-- Group `g`'s sixteen picked elements. -/
def pickVec (x : FVec F S2048x32000 .f32) (t : IVec S2048 32) (w : Fin 32) (g : Fin 4) : FVec F S16 .f32 :=
  fun k => picked x t (rowOf w (laneOf g (k 0)))

/-- The block scratch after the copies: block `j` holds eight rows of `x` by 128 columns. -/
def blocks (x : FVec F S2048x32000 .f32) (t : IVec S2048 32) (w : Fin 32) : FVec F S64x8x128 .f32 := fun k =>
  x (ix2 ⟨64 * w.val + 8 * ((k 0).val / 8) + (k 1).val, by
      have h0 : (k 0).val < 64 := (k 0).isLt
      have h1 : (k 1).val < 8 := (k 1).isLt
      have hw := w.isLt
      omega⟩
    ⟨((baseCol (tokOf t w (k 0))).toNat + (k 2).val) % 32000, Nat.mod_lt _ (by decide)⟩)

/-- The sums after the groups before `n`. -/
def sums (x : FVec F S2048x32000 .f32) (t : IVec S2048 32) (w : Fin 32) : ℕ → FVec F S16 .f32
  | 0 => acc0
  | n + 1 => if h : n < 4 then accStep (sums x t w n) (tokVec t w ⟨n, h⟩) (pickVec x t w ⟨n, h⟩) else sums x t w n

/-- A subcore's sixteen words. -/
def outVec (x : FVec F S2048x32000 .f32) (t : IVec S2048 32) (w : Fin 32) : FVec F S16 .f32 := scaled (sums x t w 4)

/-- The call's 512 words: subcore `w`'s sixteen at `16 w`. -/
def outBuf (x : FVec F S2048x32000 .f32) (t : IVec S2048 32) : FVec F S512 .f32 := fun k =>
  outVec x t ⟨(k 0).val / 16, by have h : (k 0).val < 512 := (k 0).isLt; omega⟩
    (ix1 ⟨(k 0).val % 16, Nat.mod_lt _ (by decide)⟩)

/-! ## Words -/

theorem toNat_and_127 (v : BitVec 32) : (v &&& 127#32).toNat = v.toNat % 128 := by
  rw [BitVec.toNat_and]
  exact Nat.and_two_pow_sub_one_eq_mod v.toNat 7

theorem toNat_baseCol (v : BitVec 32) : (baseCol v).toNat = v.toNat - v.toNat % 128 := by
  unfold baseCol
  rw [BitVec.toNat_sub_of_le, toNat_and_127]
  rw [BitVec.le_def, toNat_and_127]
  exact Nat.mod_le _ _

theorem baseCol_add (v : BitVec 32) : (baseCol v).toNat + v.toNat % 128 = v.toNat := by
  rw [toNat_baseCol]; exact Nat.sub_add_cancel (Nat.mod_le _ _)

/-- The subcore a grid point is. -/
def widOf (i : grid0.Coords) : Fin 32 := ⟨2 * (i 1).val + (i 0).val, by
  have h0 : (i 0).val < 2 := (i 0).isLt
  have h1 : (i 1).val < 16 := (i 1).isLt
  omega⟩

theorem toNat_widW (i : grid0.Coords) : (widW i).toNat = (widOf i).val := by
  revert i; decide +kernel

/-- The row a copy's block starts at. -/
theorem toNat_rowBase (i : grid0.Coords) (j : Fin 64) :
    (Scalar.addi (Scalar.muli (widW i) 64#32) (BitVec.ofNat 32 (8 * (j.val / 8)))).toNat = 64 * (widOf i).val + 8 * (j.val / 8) := by
  have hw := (widOf i).isLt
  show (widW i * 64#32 + BitVec.ofNat 32 (8 * (j.val / 8))).toNat = _
  rw [BitVec.toNat_add, BitVec.toNat_mul, toNat_widW, BitVec.toNat_ofNat, BitVec.toNat_ofNat]
  omega

theorem srcOff_eq (i : grid0.Coords) (j : Fin 64) (v : BitVec 32) :
    srcOff i j v = ![64 * (widOf i).val + 8 * (j.val / 8), v.toNat] := by
  unfold srcOff; rw [toNat_rowBase]

/-- A copy's check holds of a token below 32000. -/
theorem chk_of_lt (i : grid0.Coords) (j : Fin 64) (v : BitVec 32) (hv : v.toNat < 32000) : chk i j (baseCol v) := by
  have hw := (widOf i).isLt
  have hj := j.isLt
  refine ⟨?_, fun a => ?_⟩
  · rw [toNat_baseCol]; exact (Nat.dvd_sub_mod v.toNat)
  · rw [srcOff_eq, toNat_baseCol]
    match a with
    | 0 => show 64 * (widOf i).val + 8 * (j.val / 8) + 8 ≤ 2048; omega
    | 1 => show v.toNat - v.toNat % 128 + 128 ≤ 32000; omega

/-- Lane `l` of a column word. -/
theorem colWord_eq (tv : Vec F S16 .i32) (l : Fin 16) : colWord tv l = baseCol (tv (ix1 l)) := by
  have e : ∀ k : S16.Idx, k = ix1 l → (subi tv (andi tv (broadcast S16 127#32)) : IVec S16 32) k = baseCol (tv (ix1 l)) := by
    rintro k rfl; rfl
  exact e _ (funext fun a => by
    match a with
    | 0 => apply Fin.ext; show l.val + 0 = l.val; omega)

/-! ## The gathers -/

theorem toNat_rowIx (g : Fin 4) (k : S16.Idx) : (rowIx g k).toNat = 16 * g.val + (k 0).val := by
  have hk : (k 0).val < 16 := (k 0).isLt
  have hg := g.isLt
  have e : rowIx g k = BitVec.ofNat 32 (16 * g.val) + BitVec.ofNat 32 (0 + (k 0).val) := by
    show _ + iota .scVector S16 32 [0] iota_S16_d0_w32_scVector k = _
    unfold iota; simp; rfl
  rw [e, BitVec.toNat_add, BitVec.toNat_ofNat, BitVec.toNat_ofNat]
  omega

theorem toNat_subIx (k : S16.Idx) : (subIx k).toNat = (k 0).val % 8 := by
  have hk : (k 0).val < 16 := (k 0).isLt
  have e : subIx k = BitVec.ofNat 32 (0 + (k 0).val) &&& 7#32 := by
    show iota .scVector S16 32 [0] iota_S16_d0_w32_scVector k &&& _ = _
    unfold iota; simp; rfl
  rw [e, BitVec.toNat_and, BitVec.toNat_ofNat, Nat.zero_add, Nat.mod_eq_of_lt (by omega)]
  exact Nat.and_two_pow_sub_one_eq_mod (k 0).val 3

theorem toNat_laneIx (tv : Vec F S16 .i32) (k : S16.Idx) : (laneIx tv k).toNat = (tv k).toNat % 128 :=
  toNat_and_127 (tv k)

/-- A gather's index vectors are in range, whatever the tokens. -/
theorem chkG_holds (tv : Vec F S16 .i32) (g : Fin 4) : chkG (laneIx tv) (rowIx g) subIx := by
  intro a k
  have hk : (k 0).val < 16 := (k 0).isLt
  have hg := g.isLt
  match a with
  | 0 => show (rowIx g k).toNat < 64; rw [toNat_rowIx]; omega
  | 1 => show (subIx k).toNat < 8; rw [toNat_subIx]; omega
  | 2 => show (laneIx tv k).toNat < 128; rw [toNat_laneIx]; omega

/-- Group `g`'s gather of the blocks picks each row's element at its token. -/
theorem loadIdx_blocks (x : FVec F S2048x32000 .f32) (t : IVec S2048 32) (w : Fin 32) (g : Fin 4)
    (h : ∀ a k, ((![rowIx g, subIx, laneIx (F := F) (tokVec t w g)] : Fin 3 → IVec S16 32) a k).toNat < S64x8x128.size a) :
    loadIdx (F := F) (e := .f32) (blocks x t w) ![rowIx g, subIx, laneIx (F := F) (tokVec t w g)] h = pickVec x t w g := by
  funext k
  have hk : (k 0).val < 16 := (k 0).isLt
  have hg := g.isLt
  have h0 := toNat_rowIx g k
  have h1 := toNat_subIx k
  have h2 := toNat_laneIx (F := F) (tokVec t w g) k
  have hj : (⟨(rowIx g k).toNat, by rw [h0]; omega⟩ : Fin 64) = laneOf g (k 0) := Fin.ext h0
  show x (ix2 ⟨64 * w.val + 8 * ((rowIx g k).toNat / 8) + (subIx k).toNat, _⟩
    ⟨((baseCol (tokOf t w ⟨(rowIx g k).toNat, _⟩)).toNat + (laneIx (F := F) (tokVec t w g) k).toNat) % 32000, _⟩) = _
  unfold pickVec picked
  congr 2
  · apply Fin.ext
    show 64 * w.val + 8 * ((rowIx g k).toNat / 8) + (subIx k).toNat = 64 * w.val + (16 * g.val + (k 0).val)
    rw [h0, h1]; omega
  · apply Fin.ext
    show ((baseCol (tokOf t w ⟨(rowIx g k).toNat, _⟩)).toNat + (laneIx (F := F) (tokVec t w g) k).toNat) % 32000
      = (t (ix1 (rowOf w (laneOf g (k 0))))).toNat % 32000
    rw [h2, hj]
    show ((baseCol (tokOf t w (laneOf g (k 0)))).toNat + (tokOf t w (laneOf g (k 0))).toNat % 128) % 32000 = _
    rw [baseCol_add]; rfl

end Cert.Proof.Values

end
-- ==== Proof.Setup.lean ====
/-
  The two calls' setting: the resource algebra, the buffers and their shares, what one vector subcore holds.
-/
module

public import proofs.«01_k».proof.Proof.Values
public import proofs.«01_k».proof.Proof.Gen.KernelIdeal.Launch
public import Idealize.ShloMosaic.Lib.SparseCore.Quiescent
public import Idealize.ShloMosaic.Lib.SparseCore.Ops
public import Idealize.ShloMosaic.Lib.Batch
public import Idealize.ShloMosaic.Lib.StableHlo.Run
public import Idealize.ShloMosaic.Lib.Pipeline.Kit
public import Idealize.ShloMosaic.Lib.Tactic

@[expose] public section

noncomputable section

namespace Cert.Proof.Setup

open Cert.KernelIdeal Cert.KernelIdeal.Gen Cert.Proof.Canon Cert.Proof.Values
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's two kinds of call -/

/-- The labels of the program the SparseCore call is launched from: the TensorCore's pipelined region among them. -/
abbrev ΛP : Labels := Pipeline.Sig Λ₀ (Fin 1) fun p => (pcfgs (F := F) p).Adm
abbrev K [FloatOps F] [Named F] : SparseCore.Cfg τ sig (ΛP (F := F)) 1 := sc (F := F)
abbrev D [FloatOps F] [Named F] : Defs nD τ sig (Elt F) (ΛP (F := F)) := Pipeline.defs pcfgs defs₀
abbrev 𝒱₀ : Variants := Variants.none

/-! ## Resources: the handshakes' rounds, the region's rounds, the copies' counters -/

abbrev UH : Type := URounds (GSem nD τ sig) ℕ
abbrev UP : Type := URounds (GSem nD τ sig) Unit
abbrev UU : Type := UH × (UP × Counters)

abbrev MM (F : FTy → Type) : Type _ := MT nD τ sig (HIx 1) (Elt F) ℕ UU ℕ

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

/-! ## Buffers -/

abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

abbrev xV : Memref sig .scVector .hbm S2048x32000 .f32 := Memref.whole main_arg0_scv
abbrev tV : Memref sig .scVector .hbm S2048 .i32 := Memref.whole main_arg1_scv
abbrev oV : Memref sig .scVector .hbm S512 .f32 := Memref.whole main_v0_scv
abbrev kV : Memref sig .scVector .vmem S64 .i32 := Memref.whole cc0_scratch0
abbrev rV : Memref sig .scVector .vmem S64x8x128 .f32 := Memref.whole cc0_scratch1
abbrev aV : Memref sig .scVector .vmem S16 .f32 := Memref.whole cc0_scratch2

end Cert.Proof.Setup

end
-- ==== Proof.Blocks.lean ====
/-
  The blocks of the copies: block `j` of the scratch is its part along the first axis, the 64 of them are the scratch,
  and what copy `j` writes there is that part of `Values.blocks`. Likewise the subcores' tokens and output words.
-/
module

public import proofs.«01_k».proof.Proof.Setup
public import Idealize.ShloMosaic.Lib.ValueLayout

@[expose] public section

noncomputable section

namespace Cert.Proof.Blocks

open Cert.KernelIdeal Cert.KernelIdeal.Gen Cert.Proof.Canon Cert.Proof.Values Cert.Proof.Setup
open Idealize.ShloMosaic Idealize.ShloMosaic.ValueIdx

variable {F : FTy → Type} [FloatOps F] [Named F]

/-- The elements of block `j` of the scratch. -/
abbrev rowSet (j : Fin 64) : Finset S64x8x128.Idx := (rowRef rV j).view.set

/-- An index of block `j`. -/
theorem emb_rowRef (j : Fin 64) (k : S8x128.Idx) : (rowRef rV j).view.emb k = ix3 j (k 0) (k 1) := by
  have e : Shape.reshapeEquiv squeezes_S1x8x128_S8x128.numel_eq k = ix3 (⟨0, Nat.one_pos⟩ : Fin 1) (k 0) (k 1) :=
    (congrArg _ (eq_ix2 k)).trans (reshapeEquiv_ix2_1ab _ (k 0) (k 1))
  show (Rect.unit (s := S64x8x128) ![j.val, 0, 0] S1x8x128.size (rowInb j)).emb
    (Shape.reshapeEquiv squeezes_S1x8x128_S8x128.numel_eq k) = _
  rw [e]
  funext a
  apply Fin.ext
  match a with
  | 0 => show j.val + 1 * 0 = j.val; omega
  | 1 => show 0 + 1 * (k 0).val = (k 0).val; omega
  | 2 => show 0 + 1 * (k 1).val = (k 1).val; omega

/-- Block `j` is the indices whose first coordinate is `j`. -/
theorem mem_rowSet (j : Fin 64) (i : S64x8x128.Idx) : i ∈ rowSet j ↔ i 0 = j := by
  unfold rowSet View.set
  simp only [Finset.mem_map, Finset.mem_univ, true_and]
  constructor
  · rintro ⟨k, rfl⟩
    rw [emb_rowRef]
  · intro h
    refine ⟨ix2 (i 1) (i 2), ?_⟩
    rw [emb_rowRef, ← h]
    exact (eq_ix3 i).symm

theorem rowSet_disjoint : ∀ j ∈ (Finset.univ : Finset (Fin 64)), ∀ j' ∈ (Finset.univ : Finset (Fin 64)), j ≠ j' → Disjoint (rowSet j) (rowSet j') := by
  intro j _ j' _ hne
  rw [Finset.disjoint_left]
  intro i hi hi'
  exact hne (((mem_rowSet j i).mp hi).symm.trans ((mem_rowSet j' i).mp hi'))

theorem rowSet_cover : (Finset.univ : Finset (Fin 64)).biUnion rowSet = Finset.univ := by
  ext i
  simp only [Finset.mem_biUnion, Finset.mem_univ, true_and, iff_true]
  exact ⟨i 0, (mem_rowSet _ i).mpr rfl⟩

/-- Copy `j` leaves its part of `blocks` in its block. -/
theorem write_block (L : grid0.Coords) (x : FVec F S2048x32000 .f32) (t : IVec S2048 32) (ht : ∀ r, (t r).toNat < 32000)
    (f0 : FVec F S64x8x128 .f32) (j : Fin 64) (h : chk L j (baseCol (tokOf t (widOf L) j))) :
    ∀ i ∈ rowSet j, (rowRef rV j).view.write (Elt F) f0
      ((srcRef L xV j (baseCol (tokOf t (widOf L) j)) h).view.read (Elt F) x) Finset.univ i = blocks x t (widOf L) i := by
  intro i hi
  obtain ⟨k, -, rfl⟩ := Finset.mem_map.mp hi
  rw [View.write_emb_of_mem _ _ (Finset.mem_univ k), emb_rowRef]
  have h0 : (k 0).val < 8 := (k 0).isLt
  have h1 : (k 1).val < 128 := (k 1).isLt
  have hcol := h.2 1
  rw [srcOff_eq] at hcol
  have hcol' : (baseCol (tokOf t (widOf L) j)).toNat + 128 ≤ 32000 := hcol
  show x ((Rect.unit (s := S2048x32000) (srcOff L j (baseCol (tokOf t (widOf L) j))) S8x128.size h.2).emb k) = _
  unfold blocks
  congr 1
  funext a
  apply Fin.ext
  rw [Rect.emb_apply]
  show srcOff L j (baseCol (tokOf t (widOf L) j)) a + 1 * (k a).val = _
  rw [srcOff_eq]
  match a with
  | 0 => show 64 * (widOf L).val + 8 * (j.val / 8) + 1 * (k 0).val = 64 * (widOf L).val + 8 * (j.val / 8) + (k 0).val; omega
  | 1 =>
    show (baseCol (tokOf t (widOf L) j)).toNat + 1 * (k 1).val = ((baseCol (tokOf t (widOf L) j)).toNat + (k 1).val) % 32000
    rw [Nat.mod_eq_of_lt (by omega)]; omega

/-! ## The tokens -/

/-- The subcore's 64 tokens, as the fetch lands them. -/
def toks (t : IVec S2048 32) (w : Fin 32) : IVec S64 32 := fun k => tokOf t w (k 0)

theorem read_toks (L : grid0.Coords) (t : IVec S2048 32) :
    (tV.slice (Rect.unit (s := S2048) (k0_off1 L) S64.size (k0_off1_inb L)) (fun _ => rfl)).view.read (Elt F) t = toks t (widOf L) := by
  funext k
  show t ((Rect.unit (s := S2048) (k0_off1 L) S64.size (k0_off1_inb L)).emb k) = t (ix1 (rowOf (widOf L) (k 0)))
  congr 1
  funext a
  apply Fin.ext
  rw [Rect.emb_apply]
  match a with
  | 0 =>
    have e : k0_off1 L 0 = 128 * (L 1).val + 64 * (L 0).val := congrFun (k0_off1_eq L) 0
    show k0_off1 L 0 + 1 * (k 0).val = 64 * (2 * (L 1).val + (L 0).val) + (k 0).val
    omega

/-- Group `g`'s load of the fetched tokens. -/
theorem readAt_toks (t : IVec S2048 32) (w : Fin 32) (g : Fin 4) :
    kV.view.readAt (Elt F) (Rect.unit (s := S64) ![16 * g.val] S16.size (inbLane g)).toLoadRect (toks t w) = tokVec t w g := by
  funext k
  show tokOf t w _ = tokOf t w (laneOf g (k 0))
  congr 1
  apply Fin.ext
  show 16 * g.val + 1 * (k 0).val = 16 * g.val + (k 0).val
  omega

/-! ## The output words -/

/-- Subcore `w`'s words of the call's output. -/
def outSet (w : Fin 32) : Finset S512.Idx := Finset.univ.filter fun k => (k 0).val / 16 = w.val

abbrev outRef (L : grid0.Coords) : Memref sig .scVector .hbm S16 .f32 :=
  oV.slice (Rect.unit (s := S512) (k0_off66 L) S16.size (k0_off66_inb L)) (fun _ => rfl)

theorem emb_outRef (L : grid0.Coords) (k : S16.Idx) (h : 16 * (widOf L).val + (k 0).val < 512) :
    (outRef L).view.emb k = ix1 ⟨16 * (widOf L).val + (k 0).val, h⟩ := by
  funext a
  apply Fin.ext
  show k0_off66 L a + 1 * (k a).val = _
  rw [k0_off66_eq]
  match a with
  | 0 => show 32 * (L 1).val + 16 * (L 0).val + 1 * (k 0).val = 16 * (2 * (L 1).val + (L 0).val) + (k 0).val; omega

theorem outIx_lt (w : Fin 32) (k : S16.Idx) : 16 * w.val + (k 0).val < 512 := by
  have hw := w.isLt
  have hk : (k 0).val < 16 := (k 0).isLt
  omega

theorem set_outRef (L : grid0.Coords) : (outRef L).view.set = outSet (widOf L) := by
  ext i
  unfold View.set outSet
  simp only [Finset.mem_map, Finset.mem_univ, true_and, Finset.mem_filter]
  constructor
  · rintro ⟨k, rfl⟩
    have hk : (k 0).val < 16 := (k 0).isLt
    rw [emb_outRef L k (outIx_lt _ k)]
    show (16 * (widOf L).val + (k 0).val) / 16 = _
    omega
  · intro h
    refine ⟨ix1 ⟨(i 0).val % 16, Nat.mod_lt _ (by decide)⟩, ?_⟩
    rw [emb_outRef L _ (outIx_lt _ _)]
    funext a
    apply Fin.ext
    match a with
    | 0 => show 16 * (widOf L).val + (i 0).val % 16 = (i 0).val; omega

theorem outSet_disjoint : ∀ w ∈ (Finset.univ : Finset (Fin 32)), ∀ w' ∈ (Finset.univ : Finset (Fin 32)), w ≠ w' → Disjoint (outSet w) (outSet w') := by
  intro w _ w' _ hne
  rw [Finset.disjoint_left]
  intro i hi hi'
  exact hne (Fin.ext ((Finset.mem_filter.mp hi).2.symm.trans (Finset.mem_filter.mp hi').2))

theorem outSet_cover : (Finset.univ : Finset (Fin 32)).biUnion outSet = Finset.univ := by
  ext i
  have hi : (i 0).val < 512 := (i 0).isLt
  simp only [Finset.mem_biUnion, Finset.mem_univ, true_and, iff_true]
  exact ⟨⟨(i 0).val / 16, by omega⟩, Finset.mem_filter.mpr ⟨Finset.mem_univ _, rfl⟩⟩

/-- The write-out leaves the subcore's part of `outBuf`. -/
theorem write_out (L : grid0.Coords) (x : FVec F S2048x32000 .f32) (t : IVec S2048 32) (f0 : FVec F S512 .f32) :
    ∀ i ∈ outSet (widOf L), (outRef L).view.write (Elt F) f0 (outVec x t (widOf L)) Finset.univ i = outBuf x t i := by
  intro i hi
  rw [← set_outRef] at hi
  obtain ⟨k, -, rfl⟩ := Finset.mem_map.mp hi
  rw [View.write_emb_of_mem _ _ (Finset.mem_univ k), emb_outRef L k (outIx_lt _ k)]
  have hk : (k 0).val < 16 := (k 0).isLt
  show outVec x t (widOf L) k = outVec x t ⟨(16 * (widOf L).val + (k 0).val) / 16, _⟩ (ix1 ⟨(16 * (widOf L).val + (k 0).val) % 16, _⟩)
  have e1 : (⟨(16 * (widOf L).val + (k 0).val) / 16, by have := outIx_lt (widOf L) k; omega⟩ : Fin 32) = widOf L :=
    Fin.ext (by show (16 * (widOf L).val + (k 0).val) / 16 = _; omega)
  rw [e1]
  congr 1
  refine (eq_ix1 k).trans ?_
  congr 1
  exact Fin.ext (by show (k 0).val = (16 * (widOf L).val + (k 0).val) % 16; omega)

end Cert.Proof.Blocks

end
-- ==== Proof.Tile.lean ====
/-
  One vector subcore's run: the fetch of its tokens, its 64 copies on one semaphore, the 64 waits, the four gathers and
  the write-out, with the values each leaves.
-/
module

public import proofs.«01_k».proof.Proof.Blocks

@[expose] public section

noncomputable section

namespace Cert.Proof.Tile

open Cert.KernelIdeal Cert.KernelIdeal.Gen Cert.Proof.Canon Cert.Proof.Values Cert.Proof.Setup Cert.Proof.Blocks
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type} [FloatOps F] [Named F]

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0
/-- The vector subcore at a grid point. -/
abbrev thr (d : Dev nD) (L : grid0.Coords) : Thread nD τ := V d (cV L) (jV L)

/-- The subcore's copies' semaphore, and the fetch's and the write-out's. -/
abbrev cellR (d : Dev nD) (L : grid0.Coords) : GSem nD τ sig := (thr d L, .dma cc0_scratch3.sem)
abbrev cellA (d : Dev nD) (L : grid0.Coords) : GSem nD τ sig := (thr d L, .dma cc0_scoped0.sem)
abbrev cellB (d : Dev nD) (L : grid0.Coords) : GSem nD τ sig := (thr d L, .dma cc0_scoped1.sem)

/-- A run of the subcore's code at the kernel's own procedures. -/
abbrev WP {α : Type} (p : TileProg (F := F) L α) (Q : α → sProp 𝕄) : sProp 𝕄 :=
  wp frame (wpE (defs₀ (F := F)) 𝒱₀ (thr d L) none) Set.univ p Q

/-- A repeated step: the state before each is the state after the last. -/
theorem wp_forFrom (f : Fin 64 → TileProg (F := F) L PUnit) (St : ℕ → sProp 𝕄) {a b : ℕ}
    (h : ∀ j : Fin 64, a ≤ j.val → j.val < b → St j.val ⊢ WP d L (f j) fun _ => St (j.val + 1)) :
    ∀ (n j : ℕ) (hj : j + n ≤ 64), a ≤ j → j + n ≤ b → St j ⊢ WP d L (forFrom f n j hj) fun _ => St (j + n)
  | 0, j, _, _, _ => by
    unfold forFrom
    simp only [wp_pure]
    exact fupd_intro
  | n + 1, j, hj, ha, hb => by
    unfold forFrom
    simp only [wp_bind]
    refine (h ⟨j, by omega⟩ ha (by show j < b; omega)).trans (wp_mono frame _ _ fun _ => ?_)
    rw [show j + (n + 1) = j + 1 + n by omega]
    exact wp_forFrom f St h n (j + 1) (by omega) (by omega) (by omega)

/-! ## The copies -/

section Copies

variable (fx : FVec F S2048x32000 .f32) (col : Fin 64 → BitVec 32) (hc : ∀ j, chk L j (col j)) (G : FVec F S64x8x128 .f32)

/-- The elements of the block of `x` copy `j` reads. -/
abbrev srcSet (j : Fin 64) : Finset S2048x32000.Idx := (srcRef L xV j (col j) (hc j)).view.set

/-- Copy `j`'s share of the subcore's share of `x`. -/
abbrev shareOf (q : PosShare TreeShare) (j : Fin 64) : PosShare TreeShare := dealOf q Finset.univ j

/-- What copy `j` brings: its block of the scratch, filled, and its share of `x` back. -/
abbrev brought (q : PosShare TreeShare) (j : Fin 64) : sProp 𝕄 :=
  iprop(((thr d L).loc cc0_scratch1 ↦[rowSet j]{fullShare} G) ∗ (xLoc d ↦[srcSet L col hc j]{shareOf q j} fx))

/-- What copy `j` takes. -/
abbrev taken (q : PosShare TreeShare) (f0 : FVec F S64x8x128 .f32) (j : Fin 64) : sProp 𝕄 :=
  iprop(((thr d L).loc cc0_scratch1 ↦[rowSet j]{fullShare} f0) ∗ (xLoc d ↦[srcSet L col hc j]{shareOf q j} fx))

/-- What one copy is worth on its semaphore. -/
abbrev NR : ℕ := (rowRef rV 0).view.dmaCredit

abbrev copies (q : PosShare TreeShare) (k u : ℕ) : sProp 𝕄 :=
  Batch countersEmb (thr d L) (.dma cc0_scratch3.sem) (default : HIx 1) NR (brought d L fx col hc G q) k u

/-- The state before copy `k`. -/
abbrev issueSt (q : PosShare TreeShare) (f0 : FVec F S64x8x128 .f32) (k : ℕ) : sProp 𝕄 :=
  iprop(copies d L fx col hc G q k 0 ∗ bigSep (pending k) (taken d L fx col hc q f0))

theorem wp_issue (q : PosShare TreeShare) (f0 : FVec F S64x8x128 .f32)
    (hG : ∀ j : Fin 64, ∀ i ∈ rowSet j, (rowRef rV j).view.write (Elt F) f0 ((srcRef L xV j (col j) (hc j)).view.read (Elt F) fx) Finset.univ i = G i)
    (j : Fin 64) :
    issueSt d L fx col hc G q f0 j.val
      ⊢ WP d L (issue L xV rV cc0_scratch3 j (col j)) fun _ => issueSt d L fx col hc G q f0 (j.val + 1) := by
  unfold issue
  simp only [wp_bind]
  iintro ⟨HB, HP⟩
  ihave HP' := (Entails.of_eq (bigSep_pending_step (taken d L fx col hc q f0) j.val j.isLt)) $$ HP
  icases HP' with ⟨⟨Hr, Hx⟩, HP⟩
  simp only [Prog.lift, TpuEff.enqueueDma]
  rw [wp_assume_of _ _ _ _ (hc j)]
  simp only [wp_ret]
  imodintro
  iapply (wp_dmaBatch countersEmb 𝒱₀ (thr d L) none (default : HIx 1) NR (hN := rfl) (Finset.Subset.refl _) (hj := j.isLt) (Nat.zero_le _)
    (q := shareOf q j) ?hD) $$ [Hr Hx HB]
  rotate_left
  · isplitl [Hx]; · iexact Hx
    isplitl [Hr]; · iexact Hr
    iexact HB
  · iintro HB
    simp only [wp_ret]
    imodintro
    isplitl [HB] <;> iassumption
  · rw [pointsTo_congr (ℓ := (thr d L).loc cc0_scratch1) (hG j)]

/-- The state before wait `k`: `k` of the 64 copies' amounts taken, no owed wait but the copies'. -/
abbrev waitSt (q : PosShare TreeShare) (O : CellTallies nD τ sig (HIx 1)) (W : Waits sig (HIx 1)) (k : ℕ) : sProp 𝕄 :=
  iprop(levAts (K (F := F)).L (K (F := F)).lev ∗ copies d L fx col hc G q 64 (k * NR)
    ∗ ∃ W', ⌜∀ p ∈ W', p ∈ W ∨ p.2 = none⌝ ∗ owes (thr d L) O W')

theorem wp_waitRow (q : PosShare TreeShare) (O : CellTallies nD τ sig (HIx 1)) (W : Waits sig (HIx 1)) (hO : ∀ g, O g none = 0)
    (j : Fin 64) :
    waitSt d L fx col hc G q O W j.val
      ⊢ WP d L (waitRow L xV rV cc0_scratch3 j) fun _ => waitSt d L fx col hc G q O W (j.val + 1) := by
  have hj := j.isLt
  unfold waitRow
  simp only [Prog.lift]
  iintro ⟨#Hlv, HB, ⟨%W', %hW', HO⟩⟩
  iapply (wp_waitBatchMulO countersEmb 𝒱₀ (thr d L) none (default : HIx 1) (N := NR) 1
    (srcw := xV.slice (Rect.unit (s := S2048x32000) ![0, 0] S8x128.size inb_S2048x32000_S8x128_0_0) (fun _ => rfl)) (dstw := rowRef rV j)
    (hsrc := View.wordExact_bits rfl) (hdst := (View.wordExact_bits rfl).reshape _ _) (hJ := (Nat.one_mul _).symm)
    (hu := by have := Nat.mul_le_mul_right NR (Nat.succ_le_of_lt hj); rw [Nat.succ_mul] at this; rw [Nat.one_mul, Nat.mul_comm NR 64]; exact this)) $$ [HB HO]
  · isplitl [HB]; · iexact HB
    isplitl [HO]; · iexact HO
    iapply ((K (F := F)).mayWait_none (thr := thr d L) (SemLoc.dma cc0_scratch3.sem) hO); iexact Hlv
  iintro ⟨HB, HO⟩
  simp only [wp_ret]
  imodintro
  isplitr; · iexact Hlv
  isplitl [HB]
  · rw [Nat.succ_mul j.val, Nat.one_mul]; iexact HB
  iexists _; isplitr
  swap; · iexact HO
  ipureintro; intro p hp
  rcases Finset.mem_insert.mp hp with hp | hp
  · exact .inr (hp ▸ rfl)
  · exact hW' p hp

/-- A share of `x` is the copies' windows of it, each at the copy's share, and the rest at each. -/
theorem x_cut (q : PosShare TreeShare) :
    (xLoc d ↦{q} fx : sProp 𝕄) = iprop((bigSep Finset.univ fun j : Fin 64 => xLoc d ↦[srcSet L col hc j]{shareOf q j} fx)
      ∗ bigSep Finset.univ fun j : Fin 64 => xLoc d ↦[Finset.univ \ srcSet L col hc j]{shareOf q j} fx) := by
  have e : (xLoc d ↦{q} fx : sProp 𝕄) = bigSep (Finset.univ : Finset (Fin 64)) fun j => xLoc d ↦{shareOf q j} fx :=
    pointsTo_deal Finset.univ Finset.univ_nonempty q
  rw [e, ← bigSep_sep']
  refine bigSep_congr fun j _ => ?_
  have h : (xLoc d ↦{shareOf q j} fx : sProp 𝕄)
      ⊣⊢ iprop((xLoc d ↦[srcSet L col hc j]{shareOf q j} fx) ∗ xLoc d ↦[Finset.univ \ srcSet L col hc j]{shareOf q j} fx) :=
    pointsTo_split_subset (Finset.subset_univ _)
  exact Entails.antisymm h.1 h.2

/-- The scratch is its 64 blocks. -/
theorem rows_cut (f : FVec F S64x8x128 .f32) :
    ((thr d L).loc cc0_scratch1 ↦{fullShare} f : sProp 𝕄)
      = bigSep Finset.univ fun j : Fin 64 => (thr d L).loc cc0_scratch1 ↦[rowSet j]{fullShare} f := by
  rw [← pointsTo_biUnion Finset.univ (ℓ := (thr d L).loc cc0_scratch1) rowSet rowSet_disjoint, rowSet_cover]

end Copies

/-- A program run from what its run needs, going on with what it leaves. -/
theorem seq {α : Type} {p : TileProg (F := F) L α} {A : sProp 𝕄} {Q Q' : α → sProp 𝕄} (h : A ⊢ WP d L p Q) :
    A ⊢ iprop((∀ a, Q a -∗ Q' a) -∗ WP d L p Q') :=
  h.trans (wp_wand frame (wpE (defs₀ (F := F)) 𝒱₀ (thr d L) none) Set.univ)

section Groups

variable (t : IVec S2048 32)

/-- The subcore's token scratch, once fetched. -/
abbrev tokPts : sProp 𝕄 := iprop((thr d L).loc cc0_scratch0 ↦{fullShare} toks t (widOf L))

theorem wp_loadTok (g : Fin 4) :
    tokPts (F := F) d L t ⊢ WP d L (loadTok L kV g) fun tv => iprop(⌜tv = tokVec t (widOf L) g⌝ ∗ tokPts (F := F) d L t) := by
  unfold loadTok
  simp only [Prog.lift]
  iintro H
  iapply (wp_load 𝒱₀ (thr d L) none Set.univ (m := kV) (S := Finset.univ) (Finset.subset_univ _)) $$ H
  iintro H
  simp only [wp_ret]
  imodintro
  isplitr
  · ipureintro; exact readAt_toks t (widOf L) g
  · iexact H

theorem wp_issueGroup (fx : FVec F S2048x32000 .f32) (hc : ∀ j, chk L j (baseCol (tokOf t (widOf L) j))) (G : FVec F S64x8x128 .f32)
    (q : PosShare TreeShare) (f0 : FVec F S64x8x128 .f32)
    (hG : ∀ j : Fin 64, ∀ i ∈ rowSet j, (rowRef rV j).view.write (Elt F) f0
      ((srcRef L xV j (baseCol (tokOf t (widOf L) j)) (hc j)).view.read (Elt F) fx) Finset.univ i = G i) (g : Fin 4) :
    iprop(tokPts (F := F) d L t ∗ issueSt d L fx (fun j => baseCol (tokOf t (widOf L) j)) hc G q f0 (16 * g.val))
      ⊢ WP d L (issueGroup L xV kV rV cc0_scratch3 g) fun _ =>
        iprop(tokPts (F := F) d L t ∗ issueSt d L fx (fun j => baseCol (tokOf t (widOf L) j)) hc G q f0 (16 * g.val + 16)) := by
  have hg := g.isLt
  unfold issueGroup
  simp only [wp_bind]
  iintro ⟨Ht, HI⟩
  iapply (seq d L (wp_loadTok d L t g)) $$ Ht
  iintro %tv ⟨%htv, Ht⟩
  subst htv
  iapply (seq d L (wp_forFrom d L _ (issueSt d L fx (fun j => baseCol (tokOf t (widOf L) j)) hc G q f0) (a := 16 * g.val) (b := 16 * g.val + 16)
    ?h 16 (16 * g.val) _ le_rfl le_rfl)) $$ HI
  rotate_left
  · iintro %_ HI
    isplitl [Ht] <;> iassumption
  · intro j ha hb
    rw [colWord_eq, show tokVec t (widOf L) g (ix1 ⟨j.val % 16, Nat.mod_lt _ (by decide)⟩) = tokOf t (widOf L) j from
      congrArg (tokOf t (widOf L)) (Fin.ext (by show 16 * g.val + j.val % 16 = j.val; omega))]
    exact wp_issue d L fx (fun j => baseCol (tokOf t (widOf L) j)) hc G q f0 hG j

/-- The scratch read whole. -/
theorem read_scratch (f : FVec F S64x8x128 .f32) : (rV.access (Rect.whole S64x8x128)).read (Elt F) f = f := by
  funext k
  show f ((Rect.whole S64x8x128).emb k) = f k
  congr 1
  funext a
  apply Fin.ext
  show 0 + 1 * (k a).val = (k a).val
  omega

/-- Group `g` gathered and added. -/
theorem wp_gatherGroup (fx : FVec F S2048x32000 .f32) (g : Fin 4) :
    iprop(tokPts (F := F) d L t ∗ ((thr d L).loc cc0_scratch1 ↦{fullShare} blocks fx t (widOf L)))
      ⊢ WP d L (gatherGroup L kV rV g (sums fx t (widOf L) g.val)) fun s =>
        iprop(⌜s = sums fx t (widOf L) (g.val + 1)⌝ ∗ tokPts (F := F) d L t ∗ ((thr d L).loc cc0_scratch1 ↦{fullShare} blocks fx t (widOf L))) := by
  unfold gatherGroup
  simp only [wp_bind]
  iintro ⟨Ht, Hr⟩
  iapply (seq d L (wp_loadTok d L t g)) $$ Ht
  iintro %tv ⟨%htv, Ht⟩
  subst htv
  simp only [Prog.lift]
  rw [wp_assume_of _ _ _ _ (chkG_holds (F := F) (tokVec t (widOf L) g) g)]
  simp only [wp_ret]
  imodintro
  rw [← wp_bind]
  iapply (SparseCore.wp_vectorLoadIdx 𝒱₀ (thr d L) none Set.univ (base := rV) (S := Finset.univ) (q := fullShare) (Finset.subset_univ _)) $$ Hr
  iintro Hr
  simp only [wp_pure]
  imodintro
  isplitr
  · ipureintro
    have e := loadIdx_blocks fx t (widOf L) g (chkG_holds (F := F) (tokVec t (widOf L) g) g)
    conv_rhs => unfold sums
    rw [dif_pos g.isLt, read_scratch]
    exact congrArg (accStep (sums fx t (widOf L) g.val) (tokVec t (widOf L) g)) e
  isplitl [Ht] <;> iassumption

end Groups

/-! ## The subcore's own semaphores and buffers -/

theorem ownSems0_V :
    (ownSems0 (thr d L) : sProp 𝕄)
      = iprop(semVal (cellR d L) 0 ∗ semVal (cellA d L) 0 ∗ semVal (cellB d L) 0
          ∗ bigSep ((((ownCells (thr d L)).erase (cellR d L)).erase (cellA d L)).erase (cellB d L)) fun g => semVal g 0) := by
  unfold SparseCore.Cfg.ownSems0
  rw [SparseCore.bigSep_erase' ((mem_ownCells (g := cellR d L)).mpr ⟨rfl, by
      show (SemLoc.dma cc0_scratch3.sem : SemLoc sig).isScoped .scVector = true; decide⟩),
    SparseCore.bigSep_erase' (Finset.mem_erase.mpr ⟨by simp [cellR, cellA]; decide, (mem_ownCells (g := cellA d L)).mpr ⟨rfl, by
      show (SemLoc.dma cc0_scoped0.sem : SemLoc sig).isScoped .scVector = true; decide⟩⟩),
    SparseCore.bigSep_erase' (Finset.mem_erase.mpr ⟨by simp [cellA, cellB]; decide, Finset.mem_erase.mpr ⟨by simp [cellR, cellB]; decide,
      (mem_ownCells (g := cellB d L)).mpr ⟨rfl, by show (SemLoc.dma cc0_scoped1.sem : SemLoc sig).isScoped .scVector = true; decide⟩⟩⟩)]

/-- The subcore's buffers but its three scratches. -/
abbrev otherBufs : Finset (DevRef τ sig) :=
  (((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep (otherBufs L) fun b => iprop(∃ f, ((d, b) : Loc nD τ sig) ↦{fullShare} f)) := by
  unfold SparseCore.Cfg.ownBufs
  have own (b : Ref sig .scVector) (h : ((Proc.scVector (cV L) (jV L)).devRef b).owner = .proc (Proc.scVector (cV L) (jV L))) :=
    SparseCore.Cfg.mem_ownRefs_of_owner (p := Proc.scVector (cV L) (jV L)) (b := (Proc.scVector (cV L) (jV L)).devRef b) h
  have ne {b b' : Ref sig .scVector} (h : b ≠ b') : (Proc.scVector (cV L) (jV L)).devRef b ≠ (Proc.scVector (cV L) (jV L)).devRef b' :=
    fun e => h (Proc.devRef_injective _ e)
  refine (SparseCore.bigSep_erase' (own cc0_scratch0 rfl)).trans ?_
  rw [SparseCore.bigSep_erase' (Finset.mem_erase.mpr ⟨ne (show cc0_scratch1 ≠ cc0_scratch0 by decide), own cc0_scratch1 rfl⟩),
    SparseCore.bigSep_erase' (Finset.mem_erase.mpr ⟨ne (show cc0_scratch2 ≠ cc0_scratch1 by decide),
      Finset.mem_erase.mpr ⟨ne (show cc0_scratch2 ≠ cc0_scratch0 by decide), own cc0_scratch2 rfl⟩⟩)]

/-! ## The whole run -/

/-- The subcore's tokens in memory. -/
abbrev tokRef (L : grid0.Coords) : Memref sig .scVector .hbm S64 .i32 :=
  tV.slice (Rect.unit (s := S2048) (k0_off1 L) S64.size (k0_off1_inb L)) (fun _ => rfl)

/-- What a subcore is given: shares of `x` and the tokens, its words of the output. -/
abbrev given (qx qt : PosShare TreeShare) (fx : FVec F S2048x32000 .f32) (t : IVec S2048 32) (fo : FVec F S512 .f32) (w : Fin 32) : sProp 𝕄 :=
  iprop((xLoc d ↦{qx} fx) ∗ (tLoc d ↦{qt} t) ∗ (oLoc d ↦[outSet w]{fullShare} fo))

theorem t_cut (q : PosShare TreeShare) (t : IVec S2048 32) :
    (tLoc d ↦{q} t : sProp 𝕄) ⊣⊢ iprop((tLoc d ↦[(tokRef L).view.set]{q} t) ∗ tLoc d ↦[Finset.univ \ (tokRef L).view.set]{q} t) :=
  pointsTo_split_subset (Finset.subset_univ _)

/-- The fetched scratch holds the subcore's tokens. -/
theorem fetched (t : IVec S2048 32) (fk : IVec S64 32) :
    (kV.view.loc (thr d L) ↦[Finset.univ]{fullShare} (kV.view.write (Elt F) fk ((ReadAs.same : ReadAs (Elt F) S64 .i32 S64 .i32).apply ((tokRef L).view.read (Elt F) t)) Finset.univ) : sProp 𝕄)
      ⊢ tokPts (F := F) d L t := by
  rw [View.write_whole_univ]
  exact Entails.of_eq (congrArg (fun f => ((thr d L).loc cc0_scratch0 ↦{fullShare} f : sProp 𝕄)) (read_toks L t))

/-- The accumulator's elements are its whole scratch. -/
theorem acc_pts (f : FVec F S16 .f32) :
    (aV.view.loc (thr d L) ↦[aV.view.set]{fullShare} f : sProp 𝕄) = (thr d L).loc cc0_scratch2 ↦{fullShare} f := by
  rw [show aV.view.set = Finset.univ from View.set_whole _]

/-- The accumulator after the store holds the scaled sums. -/
theorem stored (fa s : FVec F S16 .f32) :
    ((aV.access (Rect.unit (s := S16) ![0] S16.size inb_S16_S16_0)).loc (thr d L) ↦{fullShare}
        ((aV.access (Rect.unit (s := S16) ![0] S16.size inb_S16_S16_0)).write (Elt F) fa (scaled s) Finset.univ) : sProp 𝕄)
      ⊢ aV.view.loc (thr d L) ↦[aV.view.set]{fullShare} scaled s := by
  rw [acc_pts]
  refine Entails.of_eq (congrArg (fun f => ((thr d L).loc cc0_scratch2 ↦{fullShare} f : sProp 𝕄)) ?_)
  funext k
  have e : k = (aV.access (Rect.unit (s := S16) ![0] S16.size inb_S16_S16_0)).emb k := by
    funext a
    apply Fin.ext
    match a with
    | 0 => show (k 0).val = 0 + 1 * (k 0).val; omega
  conv_lhs => rw [e]
  exact View.write_emb_of_mem _ _ (Finset.mem_univ k)

/-- The subcore's words of the output, as the write-out addresses them. -/
theorem out_pts (f : FVec F S512 .f32) :
    ((outRef L).view.loc (thr d L) ↦[(outRef L).view.set]{fullShare} f : sProp 𝕄) = oLoc d ↦[outSet (widOf L)]{fullShare} f := by
  rw [set_outRef]

/-- The write-out leaves the subcore's part of `outBuf`. -/
theorem written (fx : FVec F S2048x32000 .f32) (t : IVec S2048 32) (fo : FVec F S512 .f32) :
    ((outRef L).view.loc (thr d L) ↦[(outRef L).view.set]{fullShare}
        ((outRef L).view.write (Elt F) fo ((ReadAs.same : ReadAs (Elt F) S16 .f32 S16 .f32).apply (aV.view.read (Elt F) (outVec fx t (widOf L)))) Finset.univ) : sProp 𝕄)
      ⊢ oLoc d ↦[outSet (widOf L)]{fullShare} outBuf fx t := by
  rw [out_pts]
  exact Entails.of_eq (pointsTo_congr (write_out L fx t fo))

theorem tile_body (hF : (K (F := F)).Facts) (qx qt : PosShare TreeShare) (fx : FVec F S2048x32000 .f32) (t : IVec S2048 32) (fo : FVec F S512 .f32)
    (ht : ∀ r, (t r).toNat < 32000) (O : CellTallies nD τ sig (HIx 1)) (W : Waits sig (HIx 1)) (hO : ∀ g, O g none = 0) :
    iprop(levAts (K (F := F)).L (K (F := F)).lev ∗ emp ∗ given d qx qt fx t fo (widOf L)
        ∗ scopedBufs (thr d L) ∗ scopedSems0 (thr d L) ∗ owes (thr d L) O W)
      ⊢ WP d L (cc0__sc_gather_kernel L xV (Memref.isWhole_whole _) tV (Memref.isWhole_whole _) oV (Memref.isWhole_whole _)
            kV (Memref.isWhole_whole _) rV (Memref.isWhole_whole _) aV (Memref.isWhole_whole _) cc0_scratch3 cc0_scoped0 cc0_scoped1)
          fun _ => iprop(given d qx qt fx t (outBuf fx t) (widOf L)
            ∗ scopedBufs (thr d L) ∗ scopedSems0 (thr d L)
            ∗ ∃ W', ⌜∀ p ∈ W', p ∈ W ∨ p.2 = none⌝ ∗ owes (thr d L) O W') := by
  set col : Fin 64 → BitVec 32 := fun j => baseCol (tokOf t (widOf L) j)
  have hc : ∀ j, chk L j (col j) := fun j => chk_of_lt L j _ (ht _)
  rw [body_eq]
  unfold body
  simp only [wp_bind]
  rw [(K (F := F)).scopedBufs_V hF d (cV L) (jV L), SparseCore.Cfg.scopedSems0_V (Val := Elt F) d (cV L) (jV L), ownSems0_V, ownBufs_V]
  iintro ⟨#Hlv, -, ⟨Hx, Ht, Ho⟩, ⟨⟨%fk, Hk⟩, ⟨%fr, Hr⟩, ⟨%fa, Ha⟩, Hbufs⟩, ⟨HsemR, HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  -- the fetch of the tokens
  ihave Ht' := (t_cut d L qt t).1 $$ Ht
  icases Ht' with ⟨Ht, Htr⟩
  simp only [Prog.lift, TpuEff.enqueueDma]
  iapply (wp_dmaLocal countersEmb 𝒱₀ (thr d L) none (default : HIx 1) kV.view.dmaCredit rfl (by decide) (Finset.subset_univ _)
    (src := tokRef L) (q := qt) (fs := t) (fd := fk)) $$ [Ht Hk HsemA]
  · isplitl [Ht]; · iexact Ht
    isplitl [Hk]; · iexact Hk
    iexact HsemA
  iintro Hfl
  simp only [wp_ret]
  imodintro
  iapply (wp_waitLocalO countersEmb 𝒱₀ (thr d L) none (default : HIx 1) (srcw := tokRef L) (dstw := kV) (hsrc := View.wordExact_bits rfl)
    (hdst := (Memref.isWhole_whole _).wordExact) rfl) $$ [Hfl HO]
  · isplitl [Hfl]; · iexact Hfl
    isplitl [HO]; · iexact HO
    iapply (Transfers.MayWaits.elim (SemLoc.dma cc0_scoped0.sem)) $$ Hmw
  iintro ⟨⟨Hk, Ht⟩, HsemA, HO⟩
  simp only [wp_ret]
  imodintro
  ihave Hk := (fetched d L t fk) $$ Hk
  ihave Ht := (t_cut d L qt t).2 $$ [Ht Htr]
  · isplitl [Ht] <;> iassumption
  -- the copies
  ihave Hx' := (Entails.of_eq (x_cut d L fx col hc qx)) $$ Hx
  icases Hx' with ⟨Hx, Hxr⟩
  ihave Hr' := (Entails.of_eq (rows_cut d L fr)) $$ Hr
  imod (batch_alloc' countersEmb (thr d L) (default : HIx 1) NR (brought d L fx col hc (blocks fx t (widOf L)) qx)) $$ HsemR with HB
  ihave HI := (show iprop(copies d L fx col hc (blocks fx t (widOf L)) qx 0 0
      ∗ (bigSep Finset.univ fun j : Fin 64 => (thr d L).loc cc0_scratch1 ↦[rowSet j]{fullShare} fr)
      ∗ (bigSep Finset.univ fun j : Fin 64 => xLoc d ↦[srcSet L col hc j]{shareOf qx j} fx))
      ⊢ issueSt d L fx col hc (blocks fx t (widOf L)) qx fr 0 from by
        rw [← bigSep_sep', bigSep_pending_zero]) $$ [HB Hr' Hx]
  · isplitl [HB]; · iexact HB
    isplitl [Hr'] <;> iassumption
  have hG := fun j => write_block L fx t ht fr j (hc j)
  iapply (seq d L (wp_issueGroup d L t fx hc (blocks fx t (widOf L)) qx fr hG 0)) $$ [Hk HI]
  · isplitl [Hk] <;> iassumption
  iintro %_ ⟨Hk, HI⟩
  iapply (seq d L (wp_issueGroup d L t fx hc (blocks fx t (widOf L)) qx fr hG 1)) $$ [Hk HI]
  · isplitl [Hk] <;> iassumption
  iintro %_ ⟨Hk, HI⟩
  iapply (seq d L (wp_issueGroup d L t fx hc (blocks fx t (widOf L)) qx fr hG 2)) $$ [Hk HI]
  · isplitl [Hk] <;> iassumption
  iintro %_ ⟨Hk, HI⟩
  iapply (seq d L (wp_issueGroup d L t fx hc (blocks fx t (widOf L)) qx fr hG 3)) $$ [Hk HI]
  · isplitl [Hk] <;> iassumption
  iintro %_ ⟨Hk, ⟨HB, -⟩⟩
  -- their waits
  iapply (seq d L (wp_forFrom d L _ (waitSt d L fx col hc (blocks fx t (widOf L)) qx O W) (a := 0) (b := 64)
    (fun j _ _ => wp_waitRow d L fx col hc (blocks fx t (widOf L)) qx O W hO j) 64 0 _ le_rfl le_rfl)) $$ [HB HO]
  · isplitr; · iexact Hlv
    isplitl [HB]; · rw [Nat.zero_mul]; iexact HB
    iexists _; isplitr
    swap; · iexact HO
    ipureintro; intro p hp
    rcases Finset.mem_insert.mp hp with hp | hp
    · exact .inr (hp ▸ rfl)
    · exact .inl hp
  iintro %_ ⟨-, HB, ⟨%W', %hW', HO⟩⟩
  imod (batch_collect' countersEmb (thr d L) (N := NR) (by decide)) $$ [HB] with ⟨HD, HsemR⟩
  · iexact HB
  ihave HD' := (Entails.of_eq (bigSep_sep' (s := Finset.univ) (Φ := fun j : Fin 64 => (thr d L).loc cc0_scratch1 ↦[rowSet j]{fullShare} blocks fx t (widOf L))
    (Ψ := fun j : Fin 64 => xLoc d ↦[srcSet L col hc j]{shareOf qx j} fx))) $$ HD
  icases HD' with ⟨Hr, Hx⟩
  ihave Hr := (Entails.of_eq (rows_cut d L (blocks fx t (widOf L))).symm) $$ Hr
  ihave Hx := (Entails.of_eq (x_cut d L fx col hc qx).symm) $$ [Hx Hxr]
  · isplitl [Hx] <;> iassumption
  -- the gathers
  iapply (seq d L (wp_gatherGroup d L t fx 0)) $$ [Hk Hr]
  · isplitl [Hk] <;> iassumption
  iintro %s1 ⟨%h1, Hk, Hr⟩
  subst h1
  iapply (seq d L (wp_gatherGroup d L t fx 1)) $$ [Hk Hr]
  · isplitl [Hk] <;> iassumption
  iintro %s2 ⟨%h2, Hk, Hr⟩
  subst h2
  iapply (seq d L (wp_gatherGroup d L t fx 2)) $$ [Hk Hr]
  · isplitl [Hk] <;> iassumption
  iintro %s3 ⟨%h3, Hk, Hr⟩
  subst h3
  iapply (seq d L (wp_gatherGroup d L t fx 3)) $$ [Hk Hr]
  · isplitl [Hk] <;> iassumption
  iintro %s4 ⟨%h4, Hk, Hr⟩
  subst h4
  -- the sums stored, and written out
  iapply (wp_load 𝒱₀ (thr d L) none Set.univ (m := aV) (S := Finset.univ) (Finset.subset_univ _)) $$ Ha
  iintro Ha
  simp only [wp_ret]
  imodintro
  iapply (wp_store 𝒱₀ (thr d L) none Set.univ (m := aV) (r := Rect.unit (s := S16) ![0] S16.size inb_S16_S16_0) (Mk := Finset.univ)
    (S := Finset.univ) (f := fa) (Finset.subset_univ _)) $$ Ha
  iintro Ha
  ihave Ha := (stored d L fa (sums fx t (widOf L) ((3 : Fin 4).val + 1))) $$ Ha
  simp only [wp_ret]
  imodintro
  ihave Ho := (Entails.of_eq (out_pts d L fo).symm) $$ Ho
  iapply (wp_dmaLocal countersEmb 𝒱₀ (thr d L) none (default : HIx 1) (outRef L).view.dmaCredit rfl (show 0 < aV.view.dmaCredit by decide) (Finset.Subset.refl _)
    (src := aV) (dst := outRef L) (q := fullShare) (fs := outVec fx t (widOf L)) (fd := fo)) $$ [Ha Ho HsemB]
  · isplitl [Ha]; · iexact Ha
    isplitl [Ho]; · iexact Ho
    iexact HsemB
  iintro Hfl
  simp only [wp_ret]
  imodintro
  iapply (wp_waitLocalO countersEmb 𝒱₀ (thr d L) none (default : HIx 1) (srcw := aV) (dstw := outRef L)
    (hsrc := (Memref.isWhole_whole _).wordExact) (hdst := View.wordExact_bits rfl) rfl) $$ [Hfl HO]
  · isplitl [Hfl]; · iexact Hfl
    isplitl [HO]; · iexact HO
    iapply (Transfers.MayWaits.elim (SemLoc.dma cc0_scoped1.sem)) $$ Hmw
  iintro ⟨⟨Ho, Ha⟩, HsemB, HO⟩
  simp only [wp_ret, wp_pure]
  imodintro
  imodintro
  ihave Ho := (written d L fx t fo) $$ Ho
  isplitl [Hx Ht Ho]
  · isplitl [Hx]; · iexact Hx
    isplitl [Ht]; · iexact Ht
    iexact Ho
  isplitl [Hk Hr Ha Hbufs]
  · isplitl [Hk]; · iexists _; iexact Hk
    isplitl [Hr]; · iexists _; iexact Hr
    isplitl [Ha]; · iexists _; iapply (Entails.of_eq (acc_pts d L (outVec fx t (widOf L)))) $$ Ha
    iexact Hbufs
  isplitl [HsemR HsemA HsemB Hsems]
  · isplitl [HsemR]; · iexact HsemR
    isplitl [HsemA]; · iexact HsemA
    isplitl [HsemB]; · iexact HsemB
    iexact Hsems
  iexists _; isplitr
  swap; · iexact HO
  ipureintro; intro p hp
  rcases Finset.mem_insert.mp hp with hp | hp
  · exact .inr (hp ▸ rfl)
  · exact hW' p hp

end Cert.Proof.Tile

end
-- ==== Proof.Call.lean ====
/-
  The SparseCore call as the launch sees it: what it hands each vector subcore and takes back, that every subcore's
  run meets this, and that all the subcores together take `x`, the tokens and the 512 sums whole.
-/
module

public import proofs.«01_k».proof.Proof.Tile

@[expose] public section

noncomputable section

namespace Cert.Proof.Call

open Cert.KernelIdeal Cert.KernelIdeal.Gen Cert.Proof.Canon Cert.Proof.Values Cert.Proof.Setup Cert.Proof.Blocks Cert.Proof.Tile
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type} [FloatOps F] [Named F]

local notation "𝕄" => MT nD τ sig (HIx 1) (Elt F) ℕ UU ℕ

abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

variable (m : (ℓ : Loc nD τ sig) → Buf (Elt F) ℓ)

/-- The launch's tables: `x` and the tokens, the first's and second's arguments. -/
abbrev xOf (d : Dev nD) : FVec F S2048x32000 .f32 := m (xLoc d)
abbrev tOf (d : Dev nD) : IVec S2048 32 := m (tLoc d)

/-- Subcore `w`'s share of an array all 32 read. -/
abbrev shr (w : Fin 32) : PosShare TreeShare := dealOf fullShare Finset.univ w

/-- The grid point of subcore `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The number of subcore `i` of SparseCore `c`: which 64 rows it takes. -/
abbrev wOf (c : Fin 2) (i : Fin 16) : Fin 32 := widOf (coordsV c i)

abbrev goes (d : Dev nD) (w : Fin 32) : sProp 𝕄 := given d (shr w) (shr w) (xOf m d) (tOf m d) (m (oLoc d)) w
abbrev comes (d : Dev nD) (w : Fin 32) : sProp 𝕄 := given d (shr w) (shr w) (xOf m d) (tOf m d) (outBuf (xOf m d) (tOf m d)) w

/-- The call: each subcore is handed its shares of `x` and of the tokens and its 16 places of the result, and brings
    them back with its sums there; each SparseCore is handed its 16 subcores' together. -/
def P : (K (F := F)).Pay (nD := nD) (Val := Elt F) (Name := ℕ) (U := UU) where
  st := fun q d c => match q with | 0 => bigSep Finset.univ fun i : Fin 16 => goes m d (wOf c i)
  dn := fun q d c => match q with | 0 => bigSep Finset.univ fun i : Fin 16 => comes m d (wOf c i)
  go := fun q d c i => match q with | 0 => goes m d (wOf c i)
  td := fun q d c i => match q with | 0 => comes m d (wOf c i)
  x := fun _ _ => iprop(emp)

instance P_storable : (P (F := F) m).IsStorable where
  st q d c := match q with
    | 0 => (inferInstance : BI.Storable (upEmb : UEmb _ 𝕄) (bigSep Finset.univ fun i : Fin 16 => goes m d (wOf c i)))
  dn q d c := match q with
    | 0 => (inferInstance : BI.Storable (upEmb : UEmb _ 𝕄) (bigSep Finset.univ fun i : Fin 16 => comes m d (wOf c i)))
  go q d c i := match q with
    | 0 => (inferInstance : BI.Storable (upEmb : UEmb _ 𝕄) (goes m d (wOf c i)))
  td q d c i := match q with
    | 0 => (inferInstance : BI.Storable (upEmb : UEmb _ 𝕄) (comes m d (wOf c i)))

/-! ## Each subcore's run meets it -/

/-- Every token is a class: an index of a column of `x`. -/
def TokensOK : Prop := ∀ (d : Dev nD) (r : S2048.Idx), (tOf m d r).toNat < 32000

theorem defs₀_vector (c : Fin τ.nSC) (s : Fin τ.nSub) :
    defs₀ (F := F) (.scVector c s) 0 ()
      = SparseCore.onTile hcore0 hsub0 (fun c s => cc0__sc_gather_kernel (coordsV c s)
          xV (Memref.isWhole_whole _) tV (Memref.isWhole_whole _) oV (Memref.isWhole_whole _)
          kV (Memref.isWhole_whole _) rV (Memref.isWhole_whole _) aV (Memref.isWhole_whole _) cc0_scratch3 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (ht : TokensOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts _ _ (xOf m d) (tOf m d) (m (oLoc d)) (ht d) O W hO).trans
    (wp_mono frame _ _ fun _ => obl_post)

theorem vecSplit : (K (F := F)).VecSplit' (P m) 0 := by
  intro d c
  show (bigSep Finset.univ fun i : Fin 16 => goes m d (wOf c i)) ⊢ |={Set.univ}=> iprop(
      (bigSep Finset.univ fun i : Fin 16 => goes m d (wOf c i))
      ∗ ((bigSep Finset.univ fun i : Fin 16 => comes m d (wOf c i)) -∗ (bigSep Finset.univ fun i : Fin 16 => comes m d (wOf c i))))
  iintro H; imodintro
  isplitl [H]; · iexact H
  iintro H; iexact H

/-! ## All of them together -/

/-- The two SparseCores' subcores are the 32 numbers. -/
theorem bigSep_subcores (Φ : Fin 32 → sProp 𝕄) :
    (bigSep Finset.univ fun c : Fin 2 => bigSep Finset.univ fun i : Fin 16 => Φ (wOf c i)) = bigSep Finset.univ Φ := by
  rw [← BI.bigSep_univ_prod (fun p : Fin 2 × Fin 16 => Φ (wOf p.1 p.2)),
    BI.bigSep_univ_equiv ((Equiv.prodComm (Fin 2) (Fin 16)).trans finProdFinEquiv) Φ]
  refine bigSep_congr fun p _ => congrArg Φ (Fin.ext ?_)
  show 2 * p.2.val + p.1.val = p.1.val + 2 * p.2.val
  omega

/-- The 32 shares of `x` and of the tokens are the whole of each, and the 32 parts of the result its whole. -/
theorem given_all (d : Dev nD) (fx : FVec F S2048x32000 .f32) (t : IVec S2048 32) (fo : FVec F S512 .f32) :
    (bigSep Finset.univ fun w : Fin 32 => (given d (shr w) (shr w) fx t fo w : sProp 𝕄))
      = iprop((xLoc d ↦{fullShare} fx) ∗ (tLoc d ↦{fullShare} t) ∗ (oLoc d ↦{fullShare} fo)) := by
  have ex : (xLoc d ↦{fullShare} fx : sProp 𝕄) = bigSep Finset.univ fun w : Fin 32 => xLoc d ↦{shr w} fx :=
    pointsTo_deal Finset.univ Finset.univ_nonempty fullShare
  have et : (tLoc d ↦{fullShare} t : sProp 𝕄) = bigSep Finset.univ fun w : Fin 32 => tLoc d ↦{shr w} t :=
    pointsTo_deal Finset.univ Finset.univ_nonempty fullShare
  have eo : (oLoc d ↦{fullShare} fo : sProp 𝕄) = bigSep Finset.univ fun w : Fin 32 => oLoc d ↦[outSet w]{fullShare} fo := by
    rw [← pointsTo_biUnion Finset.univ (ℓ := oLoc d) outSet outSet_disjoint, outSet_cover]
  rw [ex, et, eo, ← bigSep_sep', ← bigSep_sep']

theorem st0_eq (d : Dev nD) : (bigSep Finset.univ fun c : Fin ((K (F := F)).nCore 0) => (P m).st 0 d c)
    = iprop((xLoc d ↦{fullShare} m (xLoc d)) ∗ (tLoc d ↦{fullShare} m (tLoc d)) ∗ (oLoc d ↦{fullShare} m (oLoc d))) :=
  (bigSep_subcores (goes m d)).trans (given_all d (xOf m d) (tOf m d) (m (oLoc d)))

theorem dn0_eq (d : Dev nD) : (bigSep Finset.univ fun c : Fin ((K (F := F)).nCore 0) => (P m).dn 0 d c)
    = iprop((xLoc d ↦{fullShare} m (xLoc d)) ∗ (tLoc d ↦{fullShare} m (tLoc d)) ∗ (oLoc d ↦{fullShare} outBuf (xOf m d) (tOf m d))) :=
  (bigSep_subcores (comes m d)).trans (given_all d (xOf m d) (tOf m d) (outBuf (xOf m d) (tOf m d)))

end Cert.Proof.Call

end
-- ==== Proof.Body.lean ====
/-
  One point of the TensorCore call: what it adds to the accumulator for its 32 rows, and its run.
-/
module

public import proofs.«01_k».proof.Proof.Call
public import proofs.«01_k».proof.Proof.Gen.KernelIdeal.Points

@[expose] public section

noncomputable section

namespace Cert.Proof.Body

open Cert.KernelIdeal Cert.KernelIdeal.Gen Cert.Proof.Setup Cert.Proof.Call
open Idealize.ShloMosaic Idealize.ShloMosaic.ValueIdx Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- What a point adds: over its rows whose token is not 0, `k + r * (x₀ - Σ x)`, summed; rows with token 0 count 0. -/
def part (xb : Vec F S32x32000 .f32) (tb : Vec F S1x1x32 .i32) : F .f32 :=
  extractAt ![0, 0] (shapeCast S1x1 (multiReduction .add [1] S1 (shapeCast S1x32 (select
    (cmpi .ne (shapeCast S32 tb shapeCasts_S1x1x32_S32) (broadcast S32 0#32))
    (addf (broadcast S32 (Named.named κ "k_const" 0xBFAE63F8#32 : F .f32))
      (mulf (broadcast S32 (Named.named κ "redist" 0x3651BA72#32 : F .f32))
        (subf (shapeCast S32 (extractStridedSlice S32x1 ![0, 0] xb slices_S32x32000_o0_0_S32x1) shapeCasts_S32x1_S32)
          (multiReduction .add [1] S32 xb 0x00000000#32 reduces_S32x32000_S32 (.inl rfl) rfl))))
    (broadcast S32 (Scalar.ofBits .f32 0x00000000#32 : F .f32))) shapeCasts_S32_S1x32)
    0x00000000#32 reduces_S1x32_S1 (.inl rfl) rfl) shapeCasts_S1_S1x1) inpos_S1x1_p0_0

/-- The accumulator after a point at grid index `i`, from what it held before: the first point starts it from 0. -/
def next (i : grid1.Coords) (xb : Vec F S32x32000 .f32) (tb : Vec F S1x1x32 .i32) (acc : F .f32) : F .f32 :=
  Scalar.addf (if (i 0).val = 0 then Scalar.ofBits .f32 0x00000000#32 else acc) (part xb tb)

theorem hz2 : (![0, 0] : Fin 2 → ℕ) = fun _ => 0 := funext fun a => by fin_cases a <;> rfl
theorem hz3 : (![0, 0, 0] : Fin 3 → ℕ) = fun _ => 0 := funext fun a => by fin_cases a <;> rfl

/-- The word the body branches on is set at the first point only. -/
theorem first_word (i : grid1.Coords) :
    Scalar.cmpi .ne (Scalar.extui (Scalar.cmpi .eq (BitVec.ofNat 32 (i 0).val) 0#32)) (0#32 : BitVec 32) = 1#1 ↔ (i 0).val = 0 := by
  have h : ∀ n : Fin 64, Scalar.cmpi .ne (Scalar.extui (Scalar.cmpi .eq (BitVec.ofNat 32 n.val) 0#32)) (0#32 : BitVec 32) = 1#1 ↔ n.val = 0 := by
    decide
  exact h (i 0)

/-- Memref `M`'s buffer held whole, reading `X`. -/
abbrev pt (c : Dev nD) {sp : Space} {S : Shape} {e : EltTy} (M : Memref sig .tc sp S e) (h : M.IsWhole) (X : S.Idx → Elt F e) : sProp 𝕄 :=
  M.view.loc (c : Thread nD τ) ↦{fullShare} h.unread X

/-- A store through the whole one-word block reads back as what it stored. -/
theorem read_store (M : Memref sig .tc .smem S1x1 .f32) (f : M.view.ty.Contents (Elt F)) (w : S1x1.Idx → F .f32) :
    M.view.read (Elt F) (M.view.writes (Elt F) f [⟨Rect.unit ![0, 0] S1x1.size inb_S1x1_S1x1_0_0, w⟩]) = w :=
  (View.read_writes_eq_canon _ _ _ fun y => ⟨_, List.mem_singleton_self _, View.mem_set_unit_zero (S := S1x1) hz2 inb_S1x1_S1x1_0_0 y⟩).trans
    (View.canon_unit_zero (Val := Elt F) (S := S1x1) (e := .f32) hz2 inb_S1x1_S1x1_0_0 w)

/-- The body's run at a point: both blocks left as they were, the accumulator moved on. -/
theorem body_run (c : Dev nD) (i : grid1.Coords)
    (M0 : Memref sig .tc .vmem S32x32000 .f32) (h0 : M0.IsWhole) (M1 : Memref sig .tc .vmem S1x1x32 .i32) (h1 : M1.IsWhole)
    (M2 : Memref sig .tc .smem S1x1 .f32) (h2 : M2.IsWhole) (xb : Vec F S32x32000 .f32) (tb : Vec F S1x1x32 .i32) (acc : F .f32)
    (E : Set ℕ) (Q : PUnit → sProp 𝕄) :
    iprop(pt c M0 h0 xb ∗ pt c M1 h1 tb ∗ pt c M2 h2 (fun _ => acc)
        ∗ (iprop(pt c M0 h0 xb ∗ pt c M1 h1 tb ∗ pt c M2 h2 (fun _ => next i xb tb acc)) -∗ Q ⟨⟩))
      ⊢ wp frame (wpE (defs₀ (F := F)) 𝒱₀ c none) E (cc1__tc_body i M0 h0 M1 h1 M2 h2) Q := by
  iintro ⟨H0, H1, H2, Hk⟩
  sl_exec!
  sl_step
  unfold body_run.sl.H2_1
  iapply Hk
  isplitl [H0]; · iexact H0
  isplitl [H1]; · iexact H1
  have e (v : F .f32) (hv : v = next i xb tb acc) :
      M2.view.writes (Elt F) M2.view.junk [⟨Rect.unit ![0, 0] S1x1.size inb_S1x1_S1x1_0_0, fun _ => v⟩]
        = h2.unread (fun _ => next i xb tb acc) :=
    h2.eq_unread ((read_store M2 _ _).trans (funext fun _ => hv))
  rw [e _ ?_]
  · iexact H2
  sl_unfold_words
  simp only [View.readAt_eq_ld, h0.read_unread, h1.read_unread, View.ld_unit_zero (S := S32x32000) hz2, View.ld_unit_zero (S := S1x1x32) hz3,
    View.ld_unit_zero (S := S1x1) hz2]
  unfold next
  refine congr (congrArg Scalar.addf ?_) rfl
  by_cases hi : (i 0).val = 0
  · rw [dif_pos ((first_word i).mpr hi), if_pos hi]
    exact congrFun (read_store M2 _ _) _
  · rw [dif_neg (fun h => hi ((first_word i).mp h)), if_neg hi]
    exact congrFun (h2.read_unread _) _

end Cert.Proof.Body

end
-- ==== Proof.Region.lean ====
/-
  The TensorCore call as a pipelined region: the accumulator after each grid point, the staging buffers' contents,
  what the region is entered with and what it leaves.
-/
module

public import proofs.«01_k».proof.Proof.Body
public import Idealize.ShloMosaic.Lib.Pipeline.RegionsLoop
public import Idealize.ShloMosaic.Lib.Pipeline.ValueKit.Geometry

@[expose] public section

noncomputable section

namespace Cert.Proof.Region

open Cert.KernelIdeal Cert.KernelIdeal.Gen Cert.Proof.Setup Cert.Proof.Call Cert.Proof.Body
open Idealize.ShloMosaic Idealize.ShloMosaic.ValueIdx Idealize.ShloMosaic.TcCoe
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-! ## The blocks and the running sum -/

/-- Rows `32n … 32n+31` of the logits. -/
def xBlk (x : Vec F S2048x32000 .f32) (n : Fin 64) : Vec F S32x32000 .f32 :=
  fun j => x (ix2 (⟨32 * n.val + (j 0).val, by have := n.isLt; have h : (j 0).val < 32 := (j 0).isLt; omega⟩ : Fin 2048) (j 1))

/-- The tokens of those rows. -/
def tBlk (t : Vec F S64x1x32 .i32) (n : Fin 64) : Vec F S1x1x32 .i32 :=
  fun j => t (ix3 n (j 1) (j 2))

/-- The accumulator after `n` points. -/
def acc (x : Vec F S2048x32000 .f32) (t : Vec F S64x1x32 .i32) : ℕ → F .f32
  | 0 => Scalar.ofBits .f32 0x00000000#32
  | n + 1 => Scalar.addf (acc x t n) (part (xBlk x ⟨n % 64, Nat.mod_lt _ (by decide)⟩) (tBlk t ⟨n % 64, Nat.mod_lt _ (by decide)⟩))

/-- A grid point's number, below 64. -/
def num (t : Fin cfg1.N) : Fin 64 := t.cast N_1

theorem lt_64 (t : Fin cfg1.N) : t.val < 64 := (num t).isLt

theorem coord_eq (t : Fin cfg1.N) : (grid1.coords t 0).val = t.val := by
  have h := Pipeline.Grid.coords_val (G := grid1) t 0 (S := 1) (B := 64) (by decide) (by decide)
  have := lt_64 t
  rw [h]; omega

theorem index0 (t : Fin cfg1.N) : win1_0.index t 0 = t.val ∧ win1_0.index t 1 = 0 := by
  have ht := lt_64 t
  refine ⟨?_, rfl⟩
  show (BitVec.ofNat 32 (grid1.coords t 0).val).toNat = t.val
  rw [coord_eq, BitVec.toNat_ofNat]; omega

theorem index1 (t : Fin cfg1.N) : win1_1.index t 0 = t.val ∧ win1_1.index t 1 = 0 ∧ win1_1.index t 2 = 0 := by
  have ht := lt_64 t
  refine ⟨?_, rfl, rfl⟩
  show (BitVec.ofNat 32 (grid1.coords t 0).val).toNat = t.val
  rw [coord_eq, BitVec.toNat_ofNat]; omega

/-- The block of logits read at a point is its rows, -/
theorem read_x (x : Vec F S2048x32000 .f32) (t : Fin cfg1.N) :
    ((cfg1.win 0).blk t).view.read (Elt F) x = xBlk x (num t) := by
  funext j
  rw [View.read_apply]
  unfold xBlk
  show x _ = x _
  congr 1
  funext a
  apply Fin.ext
  match a with
  | ⟨0, _⟩ => show win1_0.index t 0 * 32 + 1 * (j 0).val = 32 * t.val + (j 0).val; rw [(index0 t).1]; omega
  | ⟨1, _⟩ => show win1_0.index t 1 * 32000 + 1 * (j 1).val = (j 1).val; rw [(index0 t).2]; omega

/-- and the block of tokens is theirs. -/
theorem read_t (x : Vec F S64x1x32 .i32) (t : Fin cfg1.N) :
    ((cfg1.win 1).blk t).view.read (Elt F) x = tBlk x (num t) := by
  funext j
  rw [View.read_apply]
  unfold tBlk
  show x _ = x _
  congr 1
  funext a
  apply Fin.ext
  have hj : (j 0).val < 1 := (j 0).isLt
  match a with
  | ⟨0, _⟩ => show win1_1.index t 0 * 1 + 1 * (j 0).val = t.val; rw [(index1 t).1]; omega
  | ⟨1, _⟩ => show win1_1.index t 1 * 1 + 1 * (j 1).val = (j 1).val; rw [(index1 t).2.1]; omega
  | ⟨2, _⟩ => show win1_1.index t 2 * 32 + 1 * (j 2).val = (j 2).val; rw [(index1 t).2.2]; omega

/-- One point moves the running sum on. -/
theorem next_acc (x : Vec F S2048x32000 .f32) (t : Vec F S64x1x32 .i32) (n : Fin cfg1.N) (a : F .f32) (ha : n.val ≠ 0 → a = acc x t n.val) :
    next (grid1.coords n) (xBlk x (num n)) (tBlk t (num n)) a = acc x t (n.val + 1) := by
  have hn := lt_64 n
  have hm : (⟨n.val % 64, Nat.mod_lt _ (by decide)⟩ : Fin 64) = num n := Fin.ext (Nat.mod_eq_of_lt hn)
  unfold next
  rw [coord_eq]
  show _ = Scalar.addf (acc x t n.val) (part (xBlk x ⟨n.val % 64, _⟩) (tBlk t ⟨n.val % 64, _⟩))
  rw [hm]
  by_cases h0 : n.val = 0
  · rw [if_pos h0, h0]; rfl
  · rw [if_neg h0, ha h0]

/-! ## The region's contents -/

variable (x : Dev nD → Vec F S2048x32000 .f32) (t : Dev nD → Vec F S64x1x32 .i32) (o : Dev nD → Vec F S1x1 .f32)

/-- What is recorded of waits while the region runs: nothing above the call before it. -/
def rec (c : Dev nD) : Set (SemLoc sig × HIx 1) := {p | (K (F := F)).lev (SparseCore.T c, p.1) p.2 ≤ 8}

/-- The windows' arrays on entry; what the staging buffers hold after a point: the two blocks, the running sum. -/
def dat (c : Dev nD) : Dat τ (Elt F) (HIx 1) ℕ UU ℕ cfg1 c where
  A w := match w with
    | ⟨0, _⟩ => x c
    | ⟨1, _⟩ => t c
    | ⟨2, _⟩ => o c
  after w n := match w with
    | ⟨0, _⟩ => xBlk (x c) (num n)
    | ⟨1, _⟩ => tBlk (t c) (num n)
    | ⟨2, _⟩ => fun _ => acc (x c) (t c) (n.val + 1)
  Φ _ := Pipeline.scopedRest (Ix := HIx 1) (Name := ℕ) (U := UU) (Lvl := ℕ) (Val := Elt F) spec1 c
  q _ := fullShare
  owed _ := 0
  recorded _ := rec (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat x t o c

theorem before_x (c : Dev nD) (n : Fin cfg1.N) (d) : (dat x t o c).before 0 n d = xBlk (x c) (num n) :=
  ((dat x t o c).before_fetched 0 n (fetch1_0 n) d).trans (read_x (x c) n)

theorem before_t (c : Dev nD) (n : Fin cfg1.N) (d) : (dat x t o c).before 1 n d = tBlk (t c) (num n) :=
  ((dat x t o c).before_fetched 1 n (fetch1_1 n) d).trans (read_t (t c) n)

/-- The accumulator's buffer holds the running sum at every point but the first, where it may hold anything. -/
theorem before_acc (c : Dev nD) (n : Fin cfg1.N) (d : S1x1.Idx → F .f32) :
    ∃ a : F .f32, (dat x t o c).before 2 n d = (fun _ => a) ∧ (n.val ≠ 0 → a = acc (x c) (t c) n.val) := by
  have hn := lt_64 n
  by_cases h0 : n.val = 0
  · refine ⟨d (fun a => ⟨0, by fin_cases a <;> decide⟩), ?_, fun h => absurd h0 h⟩
    refine ((dat x t o c).before_out_reset 2 rfl n (.inl h0) d).trans (funext fun j => congrArg d (funext fun a => Fin.ext ?_))
    have : (j a).val < S1x1.size a := (j a).isLt
    fin_cases a <;> exact Nat.lt_one_iff.mp this
  · have hf : (cfg1.win 2).flush ⟨n.val - 1, Nat.lt_of_le_of_lt (Nat.sub_le _ _) n.isLt⟩ = false := by
      refine Bool.eq_false_iff.mpr fun h => ?_
      have := (flush1_2 ⟨n.val - 1, Nat.lt_of_le_of_lt (Nat.sub_le _ _) n.isLt⟩).mp h
      simp only at this; omega
    refine ⟨acc (x c) (t c) n.val, ?_, fun _ => rfl⟩
    refine ((dat x t o c).before_out_kept 2 rfl n h0 hf (fun _ => rfl) (fun _ _ => rfl) d).trans ?_
    show (fun _ => acc (x c) (t c) (n.val - 1 + 1)) = _
    rw [Nat.sub_add_cancel (Nat.one_le_iff_ne_zero.mpr h0)]

/-- A whole memref's buffer, by what it reads. -/
theorem owns_pt (c : Dev nD) {sp : Space} {S : Shape} {e : EltTy} (M : Memref sig .tc sp S e) (h : M.IsWhole) (X : S.Idx → Elt F e) :
    (owns (c : Thread nD τ) M fullShare X : sProp 𝕄) = pt c M h X := by
  have h1 : (owns (c : Thread nD τ) M fullShare X : sProp 𝕄) ⊢ pt c M h X := by
    unfold owns
    rw [h.set_eq_univ]
    iintro ⟨%f, %hf, H⟩
    rw [h.eq_unread hf]
    iexact H
  have h2 : (pt c M h X : sProp 𝕄) ⊢ owns (c : Thread nD τ) M fullShare X := by
    unfold owns
    rw [h.set_eq_univ]
    iintro H
    iexists (h.unread X)
    isplitr
    · ipureintro; exact h.read_unread X
    iexact H
  exact Entails.antisymm h1 h2

/-- One point's obligation. -/
theorem body_obligation (c : Dev nD) : BodyObligation (dat x t o c) (defs₀ (F := F)) 𝒱₀ (none : HIx 1) Set.univ := fun n => by
  rw [bigSep_W1, bigSep_W1]
  rw [show (dat x t o c).Φ n.castSucc = Pipeline.scopedRest spec1 c from rfl, show (dat x t o c).Φ n.succ = Pipeline.scopedRest spec1 c from rfl,
    show (dat x t o c).owesAt none n.succ = (dat x t o c).owesAt none n.castSucc from rfl]
  iintro ⟨HΦ, Howes, ⟨%d0, H0⟩, ⟨%d1, H1⟩, ⟨%d2, H2⟩⟩
  rw [before_x, before_t]
  obtain ⟨a, h2, ha⟩ := before_acc x t o c n d2
  rw [h2]
  ihave H0' := (Entails.of_eq (owns_pt c (st1_0 n) (hstage1_0 ((cfg1.slots n 0).cast nbuf1_0)) (xBlk (x c) (num n)))) $$ H0
  ihave H1' := (Entails.of_eq (owns_pt c (st1_1 n) (hstage1_1 ((cfg1.slots n 1).cast nbuf1_1)) (tBlk (t c) (num n)))) $$ H1
  ihave H2' := (Entails.of_eq (owns_pt c (st1_2 n) (hstage1_2 ((cfg1.slots n 2).cast nbuf1_2)) (fun _ => a))) $$ H2
  iapply (body_run c (grid1.coords n) (st1_0 n) (hstage1_0 ((cfg1.slots n 0).cast nbuf1_0)) (st1_1 n) (hstage1_1 ((cfg1.slots n 1).cast nbuf1_1))
    (st1_2 n) (hstage1_2 ((cfg1.slots n 2).cast nbuf1_2)) (xBlk (x c) (num n)) (tBlk (t c) (num n)) a Set.univ _)
  isplitl [H0']; · iexact H0'
  isplitl [H1']; · iexact H1'
  isplitl [H2']; · iexact H2'
  rw [next_acc (x c) (t c) n a ha]
  iintro ⟨H0, H1, H2⟩
  isplitl [HΦ]; · iexact HΦ
  isplitl [Howes]; · iexact Howes
  isplitl [H0]
  · iapply (Entails.of_eq (owns_pt c (st1_0 n) (hstage1_0 ((cfg1.slots n 0).cast nbuf1_0)) _).symm) $$ H0
  isplitl [H1]
  · iapply (Entails.of_eq (owns_pt c (st1_1 n) (hstage1_1 ((cfg1.slots n 1).cast nbuf1_1)) _).symm) $$ H1
  · iapply (Entails.of_eq (owns_pt c (st1_2 n) (hstage1_2 ((cfg1.slots n 2).cast nbuf1_2)) _).symm) $$ H2

/-- The result array ends holding the running sum over all 64 points. -/
theorem final (c : Dev nD) : (dat x t o c).arrAt 2 cfg1.N = (fun _ => acc (x c) (t c) 64 : Vec F S1x1 .f32) :=
  (dat x t o c).arrAt_eq_of_covers 2 (fun _ => acc (x c) (t c) 64 : Vec F S1x1 .f32) (by decide +kernel) fun n hf y => by
    have h := (flush1_2 n).mp hf
    have hn := lt_64 n
    have : n.val + 1 = 64 := by omega
    show acc (x c) (t c) (n.val + 1) = acc (x c) (t c) 64
    rw [this]

/-! ## The region over the three arrays -/

/-- The three arrays held whole at `x`, `t`, `o`, and nothing owed, the waits recorded below the SparseCore call's end. -/
def held (c : Dev nD) (o : Vec F S1x1 .f32) : sProp 𝕄 :=
  iprop(((SparseCore.T c).loc main_arg0 ↦{fullShare} x c) ∗ ((SparseCore.T c).loc main_v1 ↦{fullShare} t c) ∗ ((SparseCore.T c).loc main_v2 ↦{fullShare} o)
    ∗ ∃ W, ⌜(K (F := F)).WBelow (SparseCore.T c) W 8⌝ ∗ owes (SparseCore.T c) (0 : CellTallies nD τ sig (HIx 1)) W)

theorem arrays_held (c : Dev nD) (G : (w : Fin cfg1.W) → Buf (Elt F) (((cfg1).spec w).arr.view.loc (c.tc : Thread nD τ))) :
    (pdats x t o 0 c).arrays G
      = iprop(((SparseCore.T c).loc main_arg0 ↦{fullShare} G 0) ∗ ((SparseCore.T c).loc main_v1 ↦{fullShare} G 1) ∗ ((SparseCore.T c).loc main_v2 ↦{fullShare} G 2)) :=
  (Pipeline.arrays_eq (Pipeline.pin (pcfgs (F := F)) adm) (pdats x t o) 0 c launch1.arr_whole
    ((pdats x t o 0 c).share_full fun _ => rfl) G).trans (bigSep_W1 _)

set_option backward.isDefEq.respectTransparency.types false in
def reg : Pipeline.RegionSeg (pcfgs (F := F)) adm (pdats x t o) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation x t o c).loose
  hwaits := Pipeline.hwaits_of_owed_zero _ _ _ _ (K (F := F)).L (K (F := F)).lev 0 fun _ _ => rfl
  pre c := held x t c (o c)
  post c := held x t c (fun _ => acc (x c) (t c) 64)
  X _ := BI.emp
  Y _ := BI.emp
  Z _ := BI.emp
  hentry c := by
    rw [Pipeline.ownSems0_none]
    unfold held
    iintro ⟨⟨H0, H1, H2, HO⟩, -, -⟩
    imodintro
    isplitl [H0 H1 H2]
    · rw [arrays_held]
      isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats x t o 0 c).Φ 0 = Pipeline.scopedRest spec1 c from rfl]
    iintro ⟨-, -, Hr⟩; iexact Hr
  hout c := by
    rw [Pipeline.ownSems0_none, show (pdats x t o 0 c).Φ (Fin.last _) = Pipeline.scopedRest spec1 c from rfl]
    iintro Hr
    isplitr; · iempintro
    isplitr; · iempintro
    iexact Hr
  hexit c := by
    unfold held
    rw [arrays_held]
    rw [show (pdats x t o 0 c).arrAt 0 cfg1.N = x c from (dat x t o c).arrAt_in 0 rfl _,
      show (pdats x t o 0 c).arrAt 1 cfg1.N = t c from (dat x t o c).arrAt_in 1 rfl _,
      show (pdats x t o 0 c).arrAt 2 cfg1.N = _ from final x t o c]
    iintro ⟨⟨H0, H1, H2⟩, HO, -, -⟩
    imodintro
    isplitl [H0]; · iexact H0
    isplitl [H1]; · iexact H1
    isplitl [H2]; · iexact H2
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.Proof.Region

end
-- ==== Proof.Main.lean ====
/-
  The whole program: the SparseCore call, the reshape of the tokens, the TensorCore call, the host's last operations;
  the arguments end as they were, every semaphore at 0, and the result at a stated value.
-/
module

public import proofs.«01_k».proof.Proof.Region

@[expose] public section

noncomputable section

namespace Cert.Proof.Main

open Cert.KernelIdeal Cert.KernelIdeal.Gen Cert.Proof.Setup Cert.Proof.Call Cert.Proof.Values
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (wp_hlo_within)
open Idealize.ShloMosaic.Tactic

variable {F : FTy → Type} [FloatOps F] [Named F]

local notation "𝕄" => MT nD τ sig (HIx 1) (Elt F) ℕ UU ℕ

/-! ## The launch's own tokens: the handshakes' and the region's -/

def u₀ : UU := (initOf (K (F := F)).hsCells (K (F := F)).hsToks,
  (initOf (Pipeline.cells (Pipeline.pin (pcfgs (F := F)) Region.adm) cellOf_inj) (Pipeline.launchToks (Pipeline.pin (pcfgs (F := F)) Region.adm) cellOf_inj), 1))

/-- The region's, on one device. -/
def G (d : Dev nD) : sProp 𝕄 :=
  iprop(Pipeline.cellsGhost (Pipeline.pin (pcfgs (F := F)) Region.adm) EP 0 d ∗ Pipeline.toksInit (Pipeline.pin (pcfgs (F := F)) Region.adm) EP 0 d)

variable (m : (ℓ : Loc nD τ sig) → Buf (Elt F) ℓ) (ρ : Dev nD → PrngReg)

theorem hu₀ : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P m).x q thr) := by
  unfold u₀
  iintro Hu
  ihave H := (ownU_pair _ _) $$ Hu
  icases H with ⟨HH, HR⟩
  have hR : (BI.own (embR (initOf (Pipeline.cells (Pipeline.pin (pcfgs (F := F)) Region.adm) cellOf_inj)
        (Pipeline.launchToks (Pipeline.pin (pcfgs (F := F)) Region.adm) cellOf_inj), (1 : Counters))) : sProp 𝕄)
      ⊢ BI.own (EP (initOf (Pipeline.cells (Pipeline.pin (pcfgs (F := F)) Region.adm) cellOf_inj)
        (Pipeline.launchToks (Pipeline.pin (pcfgs (F := F)) Region.adm) cellOf_inj))) := BI.Entails.refl _
  ihave HR' := hR $$ HR
  imod (Pipeline.fund_ghost (Pipeline.pin (pcfgs (F := F)) Region.adm) (EP (F := F)) cellOf_inj) $$ HR' with ⟨Hc, Ht⟩
  imodintro
  isplitl [HH]; · iexact HH
  isplitl [Hc Ht]
  · rw [show (G (F := F)) = fun d => iprop(Pipeline.cellsGhost (Pipeline.pin (pcfgs (F := F)) Region.adm) EP 0 d
        ∗ Pipeline.toksInit (Pipeline.pin (pcfgs (F := F)) Region.adm) EP 0 d) from rfl, bigSep_sep']
    have e (Φ : Fin 1 → Dev nD → sProp 𝕄) : (bigSep Finset.univ fun c : Dev nD => bigSep Finset.univ fun p : Fin 1 => Φ p c) ⊢ bigSep Finset.univ fun c => Φ 0 c :=
      Entails.of_eq (bigSep_congr fun c _ => bigSep_univ_of_subsingleton (0 : Fin 1))
    isplitl [Hc]
    · iapply (e _) $$ Hc
    · iapply (e _) $$ Ht
  rw [show (bigSep Finset.univ fun thr : Thread nD τ => bigSep Finset.univ fun q : Fin 1 => (P m).x q thr)
      = bigSep Finset.univ fun _ : Thread nD τ => (iprop(emp) : sProp 𝕄) from
    bigSep_congr fun _ _ => bigSep_univ_of_subsingleton (0 : Fin 1)]
  rw [show (bigSep Finset.univ fun _ : Thread nD τ => (iprop(emp) : sProp 𝕄)) = iprop(emp) from bigSep_emp_const _]
  iempintro

/-! ## The TensorCore's arrays -/

abbrev dr (b : Ref sig .tc) : DevRef τ sig := Proc.devRef .tc b

/-- The arrays @main names. -/
def names : Finset (DevRef τ sig) := (StableHlo.tcRefs τ sig).filter fun b => ¬ b.isScoped

theorem unscoped_held (d : Dev nD) (V : Valuation τ sig (Elt F)) :
    (unscopedBufs d (fun b => V (dr b)) : sProp 𝕄) = StableHlo.held (SparseCore.T d) names V := by
  unfold unscopedBufs StableHlo.held names StableHlo.tcRefs
  rw [Finset.filter_map, bigSep_map]
  rfl

/-- Three of the arrays, and the rest. -/
theorem held_three (d : Dev nD) (V : Valuation τ sig (Elt F)) (a b c : Ref sig .tc) (hb : dr c ∈ names) (ha : dr b ∈ names \ {dr c})
    (hc : dr a ∈ (names \ {dr c}) \ {dr b}) :
    (StableHlo.held (SparseCore.T d) names V : sProp 𝕄)
      = iprop(((SparseCore.T d).loc c ↦{fullShare} V (dr c)) ∗ ((SparseCore.T d).loc b ↦{fullShare} V (dr b)) ∗ ((SparseCore.T d).loc a ↦{fullShare} V (dr a))
          ∗ StableHlo.held (SparseCore.T d) (((names \ {dr c}) \ {dr b}) \ {dr a}) V) := by
  have step (S : Finset (DevRef τ sig)) (x : Ref sig .tc) (hx : dr x ∈ S) :
      (StableHlo.held (SparseCore.T d) S V : sProp 𝕄)
        = iprop(((SparseCore.T d).loc x ↦{fullShare} V (dr x)) ∗ StableHlo.held (SparseCore.T d) (S \ {dr x}) V) := by
    unfold StableHlo.held
    conv_lhs => rw [show S = insert (dr x) (S \ {dr x}) from by
      ext y; by_cases h : y = dr x <;> simp [h, hx]]
    rw [SparseCore.bigSep_insert' (by simp)]
  rw [step _ c hb, step _ b ha, step _ a hc]

/-- The rest does not see a change to one of the three. -/
theorem held_congr (d : Dev nD) (S : Finset (DevRef τ sig)) (V W : Valuation τ sig (Elt F)) (h : ∀ b ∈ S, V b = W b) :
    (StableHlo.held (SparseCore.T d) S V : sProp 𝕄) = StableHlo.held (SparseCore.T d) S W := by
  unfold StableHlo.held
  exact bigSep_congr fun b hb => by rw [h b hb]

/-! ## @main's values -/

abbrev opR1 : HloOp τ sig (Elt F) := StableHlo.reshape main_arg1 main_v1 (rfl : (.i32 : EltTy) = .i32) shapeCasts_S2048_S64x1x32
abbrev opR2 : HloOp τ sig (Elt F) := StableHlo.reshape main_v2 main_v3 (rfl : (.f32 : EltTy) = .f32) shapeCasts_S1x1_S_
abbrev opC : HloOp τ sig (Elt F) := StableHlo.nullary main_cst (constant S_ .f32 0x00000000#32)
abbrev opSum : HloOp τ sig (Elt F) := StableHlo.binary main_v0 main_cst main_v4 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F))
abbrev opSub : HloOp τ sig (Elt F) := StableHlo.binary main_v3 main_v4 main_v5 (subf : (⟨S_, .f32⟩ : BufTy).Contents (Elt F) → (⟨S_, .f32⟩ : BufTy).Contents (Elt F) → (⟨S_, .f32⟩ : BufTy).Contents (Elt F))

/-- The tokens in 64 rows of 32. -/
def rows (t : IVec S2048 32) : Vec F S64x1x32 .i32 := shapeCast S64x1x32 t shapeCasts_S2048_S64x1x32

/-- What the program computes: the TensorCore's running sum less the sum of the 512 SparseCore sums. -/
def value (x : FVec F S2048x32000 .f32) (t : IVec S2048 32) : FVec F S_ .f32 :=
  subf (fun _ => Region.acc x (rows t) 64)
    (Host.reduceAdd (outBuf x t) (constant S_ .f32 0x00000000#32 : FVec F S_ .f32) reducesTo_S512_S_d0 h_S_)

theorem keepR1 (V : Valuation τ sig (Elt F)) (b : DevRef τ sig) (h : b ∉ ({dr main_v1} : Finset (DevRef τ sig))) : opR1.result V b = V b := opR1.result_of_not_mem _ h
theorem keepR2 (V : Valuation τ sig (Elt F)) (b : DevRef τ sig) (h : b ∉ ({dr main_v3} : Finset (DevRef τ sig))) : opR2.result V b = V b := opR2.result_of_not_mem _ h
theorem keepC (V : Valuation τ sig (Elt F)) (b : DevRef τ sig) (h : b ∉ ({dr main_cst} : Finset (DevRef τ sig))) : opC.result V b = V b := opC.result_of_not_mem _ h
theorem keepSum (V : Valuation τ sig (Elt F)) (b : DevRef τ sig) (h : b ∉ ({dr main_v4} : Finset (DevRef τ sig))) : opSum.result V b = V b := opSum.result_of_not_mem _ h
theorem keepSub (V : Valuation τ sig (Elt F)) (b : DevRef τ sig) (h : b ∉ ({dr main_v5} : Finset (DevRef τ sig))) : opSub.result V b = V b := opSub.result_of_not_mem _ h

/-- The arrays at launch; after the SparseCore call; after the reshape; after the TensorCore call; at the end. -/
def V0 (d : Dev nD) : Valuation τ sig (Elt F) := fun b => m (d, b)
def V1 (d : Dev nD) : Valuation τ sig (Elt F) := Function.update (V0 m d) (dr main_v0) (outBuf (xOf m d) (tOf m d))
def V2 (d : Dev nD) : Valuation τ sig (Elt F) := opR1.result (V1 m d)
def V3 (d : Dev nD) : Valuation τ sig (Elt F) :=
  Function.update (V2 m d) (dr main_v2) (fun _ => Region.acc (xOf m d) (rows (tOf m d)) 64 : Vec F S1x1 .f32)
def V4 (d : Dev nD) : Valuation τ sig (Elt F) := opSub.result (opSum.result (opC.result (opR2.result (V3 m d))))

theorem V1_ne (d : Dev nD) (b : DevRef τ sig) (h : b ≠ dr main_v0) : V1 m d b = m (d, b) := Function.update_of_ne h _ _
theorem V2_ne (d : Dev nD) (b : DevRef τ sig) (h : b ∉ ({dr main_v1} : Finset (DevRef τ sig))) : V2 m d b = V1 m d b := opR1.result_of_not_mem _ h
theorem V3_ne (d : Dev nD) (b : DevRef τ sig) (h : b ≠ dr main_v2) : V3 m d b = V2 m d b := Function.update_of_ne h _ _

theorem V2_x (d : Dev nD) : V2 m d (dr main_arg0) = xOf m d := (V2_ne m d _ (by decide)).trans (V1_ne m d _ (by decide))
theorem V2_rows (d : Dev nD) : V2 m d (dr main_v1) = rows (tOf m d) := by
  refine (StableHlo.reshape_result main_arg1 main_v1 _ _ _ _ (V1 m d)).trans ?_
  rw [show V1 m d (dr main_arg1) = m (tLoc d) from V1_ne m d (dr main_arg1) (by decide)]
  rfl

theorem V4_ne (d : Dev nD) (b : DevRef τ sig) (h5 : b ∉ ({dr main_v5} : Finset (DevRef τ sig))) (h4 : b ∉ ({dr main_v4} : Finset (DevRef τ sig)))
    (hc : b ∉ ({dr main_cst} : Finset (DevRef τ sig))) (h3 : b ∉ ({dr main_v3} : Finset (DevRef τ sig))) : V4 m d b = V3 m d b :=
  (keepSub _ _ h5).trans ((opSum.result_of_not_mem _ h4).trans ((opC.result_of_not_mem _ hc).trans (opR2.result_of_not_mem _ h3)))

theorem V4_x (d : Dev nD) : V4 m d (dr main_arg0) = m (xLoc d) :=
  (V4_ne m d _ (by decide) (by decide) (by decide) (by decide)).trans ((V3_ne m d _ (by decide)).trans (V2_x m d))
theorem V4_t (d : Dev nD) : V4 m d (dr main_arg1) = m (tLoc d) :=
  (V4_ne m d _ (by decide) (by decide) (by decide) (by decide)).trans ((V3_ne m d _ (by decide)).trans ((V2_ne m d _ (by decide)).trans (V1_ne m d _ (by decide))))

theorem V4_result (d : Dev nD) : V4 m d (dr main_v5) = value (xOf m d) (tOf m d) := by
  unfold V4 value
  refine (StableHlo.binary_result main_v3 main_v4 main_v5 _ _ _ _ _).trans ?_
  have e3 : opSum.result (opC.result (opR2.result (V3 m d))) (dr main_v3) = (fun _ => Region.acc (xOf m d) (rows (tOf m d)) 64 : Vec F S_ .f32) := by
    refine (keepSum _ _ (by decide)).trans ((keepC _ _ (by decide)).trans ?_)
    refine (StableHlo.reshape_result main_v2 main_v3 _ _ _ _ (V3 m d)).trans ?_
    rw [show V3 m d (dr main_v2) = (fun _ => Region.acc (xOf m d) (rows (tOf m d)) 64 : Vec F S1x1 .f32) from Function.update_self _ _ _]
    rfl
  have e4 : opSum.result (opC.result (opR2.result (V3 m d))) (dr main_v4)
      = Host.reduceAdd (outBuf (xOf m d) (tOf m d)) (constant S_ .f32 0x00000000#32 : FVec F S_ .f32) reducesTo_S512_S_d0 h_S_ := by
    refine (StableHlo.binary_result main_v0 main_cst main_v4 _ _ _ _ _).trans ?_
    have ec : opC.result (opR2.result (V3 m d)) (dr main_cst) = (constant S_ .f32 0x00000000#32 : FVec F S_ .f32) := StableHlo.nullary_result main_cst _ _ _
    have e0 : opC.result (opR2.result (V3 m d)) (dr main_v0) = outBuf (xOf m d) (tOf m d) :=
      (keepC _ _ (by decide)).trans ((keepR2 _ _ (by decide)).trans ((V3_ne m d _ (by decide)).trans
        ((V2_ne m d _ (by decide)).trans (Function.update_self _ _ _))))
    rw [show opC.result (opR2.result (V3 m d)) (dr main_cst) = _ from ec, show opC.result (opR2.result (V3 m d)) (dr main_v0) = _ from e0]
  rw [show opSum.result (opC.result (opR2.result (V3 m d))) (dr main_v3) = _ from e3,
    show opSum.result (opC.result (opR2.result (V3 m d))) (dr main_v4) = _ from e4]

/-! ## @main's run -/

/-- What @main leaves the claim: the arguments as they were, the result. -/
abbrev FIN (d : Dev nD) : sProp 𝕄 :=
  iprop((xLoc d ↦{fullShare} m (xLoc d)) ∗ (tLoc d ↦{fullShare} m (tLoc d)) ∗ ((SparseCore.T d).loc main_v5 ↦{fullShare} value (xOf m d) (tOf m d)))

theorem held_V0 (d : Dev nD) : (unscopedBufs d (fun b => m ((SparseCore.T d).loc b)) : sProp 𝕄)
    = iprop((xLoc d ↦{fullShare} m (xLoc d)) ∗ (tLoc d ↦{fullShare} m (tLoc d)) ∗ (oLoc d ↦{fullShare} m (oLoc d))
        ∗ StableHlo.held (SparseCore.T d) (((names \ {dr main_arg0}) \ {dr main_arg1}) \ {dr main_v0}) (V0 m d)) :=
  (unscoped_held d (V0 m d)).trans (held_three d (V0 m d) main_v0 main_arg1 main_arg0 (by decide) (by decide) (by decide))

theorem held_V1 (d : Dev nD) : (StableHlo.held (SparseCore.T d) names (V1 m d) : sProp 𝕄)
    = iprop((xLoc d ↦{fullShare} m (xLoc d)) ∗ (tLoc d ↦{fullShare} m (tLoc d)) ∗ (oLoc d ↦{fullShare} outBuf (xOf m d) (tOf m d))
        ∗ StableHlo.held (SparseCore.T d) (((names \ {dr main_arg0}) \ {dr main_arg1}) \ {dr main_v0}) (V0 m d)) := by
  rw [held_three d (V1 m d) main_v0 main_arg1 main_arg0 (by decide) (by decide) (by decide), V1_ne m d (dr main_arg0) (by decide),
    V1_ne m d (dr main_arg1) (by decide), show V1 m d (dr main_v0) = outBuf (xOf m d) (tOf m d) from Function.update_self _ _ _,
    held_congr d _ (V1 m d) (V0 m d) fun b hb => V1_ne m d b (by
      intro h; subst h; exact absurd hb (by decide))]

theorem held_V2 (d : Dev nD) : (StableHlo.held (SparseCore.T d) names (V2 m d) : sProp 𝕄)
    = iprop(((SparseCore.T d).loc main_arg0 ↦{fullShare} xOf m d) ∗ ((SparseCore.T d).loc main_v1 ↦{fullShare} rows (F := F) (tOf m d))
        ∗ ((SparseCore.T d).loc main_v2 ↦{fullShare} V2 m d (dr main_v2))
        ∗ StableHlo.held (SparseCore.T d) (((names \ {dr main_arg0}) \ {dr main_v1}) \ {dr main_v2}) (V2 m d)) := by
  rw [held_three d (V2 m d) main_v2 main_v1 main_arg0 (by decide) (by decide) (by decide), V2_x, V2_rows]

theorem held_V3 (d : Dev nD) : (StableHlo.held (SparseCore.T d) names (V3 m d) : sProp 𝕄)
    = iprop(((SparseCore.T d).loc main_arg0 ↦{fullShare} xOf m d) ∗ ((SparseCore.T d).loc main_v1 ↦{fullShare} rows (F := F) (tOf m d))
        ∗ ((SparseCore.T d).loc main_v2 ↦{fullShare} (fun _ => Region.acc (xOf m d) (rows (tOf m d)) 64 : Vec F S1x1 .f32))
        ∗ StableHlo.held (SparseCore.T d) (((names \ {dr main_arg0}) \ {dr main_v1}) \ {dr main_v2}) (V2 m d)) := by
  rw [held_three d (V3 m d) main_v2 main_v1 main_arg0 (by decide) (by decide) (by decide), V3_ne m d (dr main_arg0) (by decide),
    V3_ne m d (dr main_v1) (by decide), V2_x, V2_rows,
    show V3 m d (dr main_v2) = (fun _ => Region.acc (xOf m d) (rows (tOf m d)) 64 : Vec F S1x1 .f32) from Function.update_self _ _ _,
    held_congr d _ (V3 m d) (V2 m d) fun b hb => V3_ne m d b (by
      intro h; subst h; exact absurd hb (by decide))]

theorem held_V4 (d : Dev nD) : (StableHlo.held (SparseCore.T d) names (V4 m d) : sProp 𝕄)
    = iprop((xLoc d ↦{fullShare} m (xLoc d)) ∗ (tLoc d ↦{fullShare} m (tLoc d)) ∗ ((SparseCore.T d).loc main_v5 ↦{fullShare} value (xOf m d) (tOf m d))
        ∗ StableHlo.held (SparseCore.T d) (((names \ {dr main_arg0}) \ {dr main_arg1}) \ {dr main_v5}) (V4 m d)) := by
  rw [held_three d (V4 m d) main_v5 main_arg1 main_arg0 (by decide) (by decide) (by decide), V4_x, V4_t, V4_result]

/-- What the TensorCore owes once the SparseCore call is over is nothing, -/
theorem owed_none (d : Dev nD) : (K (F := F)).Otc d 1 = 0 := by
  unfold SparseCore.Cfg.Otc
  exact Finset.sum_eq_zero fun q _ => if_neg (by omega)

variable (κ : GSem nD τ sig → ℕ)

/-- The TensorCore call. -/
theorem region_run [∀ e, Nonempty (Elt F e)] (d : Dev nD) (x : Vec F S2048x32000 .f32) (t : Vec F S64x1x32 .i32) (o : Vec F S1x1 .f32) (Q : PUnit.{1} → sProp 𝕄) :
    iprop((iprop(boundary (SparseCore.T d) ∗ Region.held (fun _ => x) (fun _ => t) d (fun _ => Region.acc x t 64)) -∗ Q ⟨⟩)
        ∗ boundary (SparseCore.T d) ∗ Region.held (fun _ => x) (fun _ => t) d o ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  have h0 := (K (F := F)).wp_liftProg (D (F := F)) 𝒱 (nD := nD) (Name := ℕ) (U := UU) (SparseCore.T d) Set.univ none
    (.op (.customCall (Pipeline.entry 0) ()) .ret : Prog (TpuEff nD τ sig (Elt F) (ΛP (F := F)) .tc) PUnit.{1}) Q
  have h := Pipeline.RegionSeg.wp (pcfgs (F := F)) Region.adm (Region.pdats (fun _ => x) (fun _ => t) (fun _ => o)) none cellOf_inj (EP (F := F)) defs₀ 𝒱₀
    (K (F := F)).L (K (F := F)).lev (p := 0)
  have h2 := h (Region.reg (F := F) (fun _ => x) (fun _ => t) (fun _ => o)) d none (by intro u h; exact absurd h (by simp)) (α := PUnit.{1}) .ret Q
  have epre : (Region.reg (F := F) (fun _ => x) (fun _ => t) (fun _ => o)).pre d = Region.held (fun _ => x) (fun _ => t) d o := rfl
  have epost : (Region.reg (F := F) (fun _ => x) (fun _ => t) (fun _ => o)).post d
      = Region.held (fun _ => x) (fun _ => t) d (fun _ => Region.acc x t 64) := rfl
  rw [epre, epost] at h2
  unfold G
  iintro ⟨Hk, Hb, Hh, Hl, Hg, Ht⟩
  iapply h0
  iapply h2
  isplitl [Hk]
  · iintro H
    rw [wp_ret]; imodintro
    iapply Hk $$ H
  isplitl [Hb]; · iexact Hb
  isplitl [Hh]; · iexact Hh
  isplitl [Hl]; · iexact Hl
  isplitl [Hg]; · iexact Hg
  iexact Ht

theorem bufsR1 : (opR1 (F := F)).bufs ⊆ names := show ({dr main_arg1, dr main_v1} : Finset (DevRef τ sig)) ⊆ names by decide
theorem bufsR2 : (opR2 (F := F)).bufs ⊆ names := show ({dr main_v2, dr main_v3} : Finset (DevRef τ sig)) ⊆ names by decide
theorem bufsC : (opC (F := F)).bufs ⊆ names := show ({dr main_cst} : Finset (DevRef τ sig)) ⊆ names by decide
theorem bufsSum : (opSum (F := F)).bufs ⊆ names := show ({dr main_v0, dr main_cst, dr main_v4} : Finset (DevRef τ sig)) ⊆ names by decide
theorem bufsSub : (opSub (F := F)).bufs ⊆ names := show ({dr main_v3, dr main_v4, dr main_v5} : Finset (DevRef τ sig)) ⊆ names by decide

theorem hmain [∀ e, Nonempty (Elt F e)] (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [held_V0]
  simp only [main, wp_bind, wp_pure]
  iintro ⟨#Hctx, Hst, ⟨Hb, ⟨Hx, Ht, Ho, Hrest⟩, Hts, -⟩, HG⟩
  iapply ((K (F := F)).wp_run (D (F := F)) 𝒱 (EH := EH) (P := P m) κ d 0) $$ [Hst Hx Ht Ho Hb Hrest Hts HG]
  isplitr; · iexact Hctx
  isplitl [Hst]; · iexact Hst
  isplitl [Hx Ht Ho]
  · rw [st0_eq]
    isplitl [Hx]; · iexact Hx
    isplitl [Ht]; · iexact Ht
    iexact Ho
  iintro ⟨Hst, Hdn⟩
  ihave Hdn' := (Entails.of_eq (dn0_eq m d)) $$ Hdn
  icases Hdn' with ⟨Hx, Ht, Ho⟩
  iapply (wp_hlo_within 𝒱 (SparseCore.T d) none Set.univ (op := opR1) (S := names) bufsR1 (V := V1 m d)) $$ [Hb Hx Ht Ho Hrest]
  · isplitl [Hb]; · iexact Hb
    rw [held_V1]
    isplitl [Hx]; · iexact Hx
    isplitl [Ht]; · iexact Ht
    isplitl [Ho]; · iexact Ho
    iexact Hrest
  iintro ⟨Hb, Hheld⟩
  rw [wp_ret]; imodintro
  ihave Hh := (Entails.of_eq (show StableHlo.held (SparseCore.T d) names (opR1.result (V1 m d)) = _ from held_V2 (F := F) m d)) $$ Hheld
  icases Hh with ⟨Hx, Hr, Hv, Hrest⟩
  ihave Hl := ((K (F := F)).ctx_levAts κ) $$ Hctx
  unfold SparseCore.Cfg.tcSt
  icases Hst with ⟨⟨%W, %hW, HO⟩, Hst⟩
  rw [owed_none]
  iapply (region_run d (xOf m d) (rows (tOf m d)) (V2 m d (dr main_v2)) _)
  isplitr [Hb Hx Hr Hv HO HG]
  rotate_left
  · isplitl [Hb]; · iexact Hb
    isplitl [Hx Hr Hv HO]
    · unfold Region.held
      isplitl [Hx]; · iexact Hx
      isplitl [Hr]; · iexact Hr
      isplitl [Hv]; · iexact Hv
      iexists W
      isplitr; · ipureintro; exact hW
      ihave HO' := (Entails.of_eq (show owes (SparseCore.T d) ((K (F := F)).Otc d ((0 : Fin 1).val + 1)) W = owes (SparseCore.T d) 0 W from by
        rw [show ((0 : Fin 1).val + 1) = 1 from rfl, owed_none])) $$ HO
      iexact HO'
    isplitr; · iexact Hl
    iexact HG
  unfold Region.held
  iintro ⟨Hb, Hx, Hr, Hv, HO⟩
  iapply (wp_hlo_within 𝒱 (SparseCore.T d) none Set.univ (op := opR2) (S := names) bufsR2 (V := V3 m d)) $$ [Hb Hx Hr Hv Hrest]
  · isplitl [Hb]; · iexact Hb
    rw [held_V3]
    isplitl [Hx]; · iexact Hx
    isplitl [Hr]; · iexact Hr
    isplitl [Hv]; · iexact Hv
    iexact Hrest
  iintro ⟨Hb, Hheld⟩
  rw [wp_ret]; imodintro
  iapply (wp_hlo_within 𝒱 (SparseCore.T d) none Set.univ (op := opC) (S := names) bufsC (V := opR2.result (V3 m d))) $$ [Hb Hheld]
  · isplitl [Hb]; · iexact Hb
    iexact Hheld
  iintro ⟨Hb, Hheld⟩
  rw [wp_ret]; imodintro
  iapply (wp_hlo_within 𝒱 (SparseCore.T d) none Set.univ (op := opSum) (S := names) bufsSum (V := opC.result (opR2.result (V3 m d)))) $$ [Hb Hheld]
  · isplitl [Hb]; · iexact Hb
    iexact Hheld
  iintro ⟨Hb, Hheld⟩
  rw [wp_ret]; imodintro
  iapply (wp_hlo_within 𝒱 (SparseCore.T d) none Set.univ (op := opSub) (S := names) bufsSub (V := opSum.result (opC.result (opR2.result (V3 m d))))) $$ [Hb Hheld]
  · isplitl [Hb]; · iexact Hb
    iexact Hheld
  iintro ⟨Hb, Hheld⟩
  rw [wp_ret]; imodintro; imodintro
  ihave Hh := (Entails.of_eq (show StableHlo.held (SparseCore.T d) names (opSub.result (opSum.result (opC.result (opR2.result (V3 m d))))) = _ from held_V4 (F := F) m d)) $$ Hheld
  icases Hh with ⟨Hx, Ht, Hv, -⟩
  isplitl [HO Hst]
  · isplitl [HO]
    · iexact HO
    iexact Hst
  isplitr [Hb Hts]
  · isplitl [Hx]; · iexact Hx
    isplitl [Ht]; · iexact Ht
    iexact Hv
  isplitl [Hb] <;> iassumption

/-! ## The final memory -/

def fq (d : Dev nD) (s' : Phys nD τ sig (Elt F)) : Prop :=
  s'.mem.mem (xLoc d) = m (xLoc d) ∧ s'.mem.mem (tLoc d) = m (tLoc d) ∧ s'.mem.mem ((SparseCore.T d).loc main_v5) = value (xOf m d) (tOf m d)

theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h : iprop((ℓ ↦{fullShare} f : sProp 𝕄) ∗ SI s') ⊢ (⌜s'.mem.mem ℓ = f⌝ : sProp 𝕄) := by
    iintro ⟨Hx, HSI⟩
    ihave H := (SI_pointsTo_agree (st := s') (ℓ := ℓ) (I := Finset.univ) (q := fullShare) (f := f)) $$ [HSI Hx]
    · isplitl [HSI] <;> iassumption
    icases H with %hx
    ipureintro; exact funext fun i => hx i (Finset.mem_univ i)
  exact (persistent_entails_right h).trans (sep_mono_right sep_elim_right)

theorem hfin (d : Dev nD) (s' : Phys nD τ sig (Elt F)) : iprop(FIN m d ∗ SI s') ⊢ (⌜fq m d s'⌝ : sProp 𝕄) := by
  iintro ⟨⟨Hx, Ht, Hv⟩, HSI⟩
  ihave H := (read_one _ _ s') $$ [Hx HSI]
  · isplitl [Hx] <;> iassumption
  icases H with ⟨%hx, HSI⟩
  ihave H := (read_one _ _ s') $$ [Ht HSI]
  · isplitl [Ht] <;> iassumption
  icases H with ⟨%ht, HSI⟩
  ihave H := (read_one _ _ s') $$ [Hv HSI]
  · isplitl [Hv] <;> iassumption
  icases H with ⟨%hv, HSI⟩
  ipureintro; exact ⟨hx, ht, hv⟩

def QC : PUnit × MemSt nD τ sig (Elt F) → Prop := fun r =>
  (∀ d : Dev nD, r.2.mem (xLoc d) = m (xLoc d) ∧ r.2.mem (tLoc d) = m (tLoc d)
    ∧ r.2.mem ((SparseCore.T d).loc main_v5) = value (xOf m d) (tOf m d)) ∧ r.2.sem = fun _ => 0

/-- The program's run, for tokens that are classes: the arguments as they were, the result at `value`, every semaphore
    at 0. -/
theorem run_main [∀ e, Nonempty (Elt F e)] (ht : TokensOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m ht)
    (fun q _ => match q with | 0 => SparseCore.Cfg.VecSplit.of_plain (vecSplit m))
    m ρ main G (FIN m) (u₀ (F := F)) (sep_elim_left.trans (hu₀ m)) (fun κ d => hmain m ρ κ d) (fq m) (hfin m) (QC m) (fun _ h hz => ⟨h, hz⟩)

end Cert.Proof.Main

end
-- ==== Proof.Frames.lean ====
/-
  The frames of the kernel and of its idealization, from the run of Proof/Main.lean; and what the two preconditions say
  of the launch memory.
-/
module

public import proofs.«01_k».proof.Defs
public import proofs.«01_k».proof.Proof.Main
public import proofs.«01_k».proof.Proof.Gen.Pre_tokens_in_range
public import proofs.«01_k».proof.Proof.Gen.Pre_finite_and_in_range
public import Idealize.ShloMosaic.Lib.ReduceAll

@[expose] public section

noncomputable section

namespace Cert.Proof.Frames

open Idealize.ShloMosaic Idealize.SL.Sem

/-! ## What the preconditions say -/

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

theorem andi_eq_one {a b : BitVec 1} (h : IntOp.andi a b = 1#1) : a = 1#1 ∧ b = 1#1 := by
  revert h; revert a b; decide

/-- A word that is not negative and below 32000, both read signed, is below 32000. -/
theorem in_range {v : BitVec 32} (h0 : IntOp.cmpi .sge v 0#32 = 1#1) (h1 : IntOp.cmpi .slt v 32000#32 = 1#1) : v.toNat < 32000 := by
  simp only [IntOp.cmpi, ofBool_eq_one, BitVec.sle_eq_decide, BitVec.slt_eq_decide,
    decide_eq_true_eq, BitVec.toInt_eq_toNat_cond, BitVec.toNat_ofNat, Nat.reducePow, Nat.reduceMod] at h0 h1
  omega

/-- `tokens_in_range`: every token is below 32000. -/
theorem tokens_of_pre {F : FTy → Type} [FloatOps F] (x : FVec F Cert.Pre_tokens_in_range.S2048x32000 .f32) (t : IVec Cert.Pre_tokens_in_range.S2048 32)
    (h : Cert.Pre_tokens_in_range.fn x t = fun _ => 1#1) (r : Cert.Pre_tokens_in_range.S2048.Idx) : (t r).toNat < 32000 := by
  have e := congrFun h r
  simp only [Cert.Pre_tokens_in_range.fn, andi, cmpi, broadcastInDim, constantI] at e
  exact in_range (andi_eq_one e).1 (andi_eq_one e).2

/-- `finite_and_in_range`, its part on the tokens, -/
theorem tokens_of_finite_pre {F : FTy → Type} [FloatOps F] (x : FVec F Cert.Pre_finite_and_in_range.S2048x32000 .f32) (t : IVec Cert.Pre_finite_and_in_range.S2048 32)
    (h : Cert.Pre_finite_and_in_range.fn x t = fun _ => 1#1) (r : Cert.Pre_finite_and_in_range.S2048.Idx) : (t r).toNat < 32000 := by
  have e := congrFun h r
  simp only [Cert.Pre_finite_and_in_range.fn, andi, cmpi, broadcastInDim, constantI] at e
  exact in_range (andi_eq_one (andi_eq_one e).1).2 (andi_eq_one e).2

/-- and its part on `x`: no entry is infinite. -/
theorem finite_of_pre (x : FVec Ideal Cert.Pre_finite_and_in_range.S2048x32000 .f32) (t : IVec Cert.Pre_finite_and_in_range.S2048 32)
    (h : Cert.Pre_finite_and_in_range.fn x t = fun _ => 1#1) (i : Cert.Pre_finite_and_in_range.S2048x32000.Idx) : ∃ a : ℝ, x i = (a : EReal) := by
  have e := congrFun h (ValueIdx.ix1 0)
  simp only [Cert.Pre_finite_and_in_range.fn, andi, cmpi, constantI] at e
  have e1 := (andi_eq_one (andi_eq_one e).1).1
  simp only [broadcastInDim] at e1
  have e2 := Host.reduce_andi_all _ _ _ _ _ e1 i
  have e3 : max (x i) (-(x i)) < (⊤ : EReal) :=
    lt_of_lt_of_le (of_decide_eq_true ((ofBool_eq_one (decide (max (x i) (-(x i)) < Ideal.ofBits .f32 0x7F800000#32))).1 e2)) le_top
  have h1 : (x i : EReal) ≠ ⊤ := ne_top_of_lt (lt_of_le_of_lt (le_max_left _ _) e3)
  have h2 : (x i : EReal) ≠ ⊥ := fun q => by
    have := lt_of_le_of_lt (le_max_right _ _) e3
    rw [q] at this
    exact absurd this (by simp)
  exact ⟨(x i : EReal).toReal, (EReal.coe_toReal h1 h2).symm⟩

/-! ## The frames -/

theorem frame_pi : Cert.quiescent_KernelIdeal := fun m ρ hpre =>
  (θ_run Cert.KernelIdeal.defs _ _).mono (fun _ h => ⟨fun c => ⟨(h.1 c).1, (h.1 c).2.1⟩, h.2⟩)
    (Main.run_main (F := Ideal) m ρ fun d r => tokens_of_pre _ _ (hpre d) r)

theorem frame_pi_finite : Cert.quiescent_KernelIdeal_pre_finite_and_in_range := fun m ρ hpre =>
  (θ_run Cert.KernelIdeal.defs _ _).mono (fun _ h => ⟨fun c => ⟨(h.1 c).1, (h.1 c).2.1⟩, h.2⟩)
    (Main.run_main (F := Ideal) m ρ fun d r => tokens_of_finite_pre _ _ (hpre d) r)

/-! ## The named constants -/

theorem preserves : Cert.preserves_Kernel_KernelIdeal :=
  ⟨IdealRules.named_const.statement Cert.KernelIdeal.κ "conf_less_redist" .f32 0x3F666632#32 ((287981 / 319980 : ℝ) : EReal) rfl,
    IdealRules.named_const.statement Cert.KernelIdeal.κ "redist" .f32 0x3651BA72#32 ((1 / 319980 : ℝ) : EReal) rfl,
    IdealRules.named_const.statement Cert.KernelIdeal.κ "k_const" .f32 0xBFAE63F8#32 (((1 / 10) * (Real.log (129140163 / 106660000000000)) : ℝ) : EReal) rfl⟩

end Cert.Proof.Frames

end
-- ==== Proof.FrameKernel.lean ====
/-
  The frame of the kernel at machine words, from the run of Proof/Main.lean: there the idealized program's named constants
  are the words they name, and the two programs are one text.
-/
module

public import proofs.«01_k».proof.Proof.Frames
public import proofs.«01_k».proof.Proof.Gen.Kernel

@[expose] public section

noncomputable section

namespace Cert.Proof.Frames

open Idealize.ShloMosaic Idealize.SL.Sem

/-- At machine words a named constant is read as the word it names. -/
local instance namedBits : Named Bits where
  named _ _ {φ} b := FloatOps.ofBits φ b

set_option maxHeartbeats 4000000 in
/-- The kernels' body tables are one text: the SparseCore kernel's row, the TensorCore kernel's row, and the rows that
    nothing runs. -/
theorem bodies_eq : Cert.Kernel.defs₀ (F := Bits) = Cert.KernelIdeal.defs₀ (F := Bits) := funext fun p => funext fun l =>
  match p, l with
  | .scVector _ _, 0 => funext fun _ => rfl
  | .scVector _ _, 1 => funext fun _ => rfl
  | .tc, 0 => funext fun _ => rfl
  | .tc, 1 => funext fun _ => rfl
  | .scScalar _, 0 => funext fun _ => rfl
  | .scScalar _, 1 => funext fun _ => rfl

set_option maxHeartbeats 4000000 in
theorem defs_eq : Cert.Kernel.defs (F := Bits) = Cert.KernelIdeal.defs (F := Bits) :=
  (congrArg (fun d => (Cert.Kernel.sc (F := Bits)).defs (Pipeline.defs (Cert.Kernel.pcfgs (F := Bits)) d)) bodies_eq).trans rfl

set_option maxHeartbeats 4000000 in
theorem threads_eq : Cert.Kernel.threads (F := Bits) = Cert.KernelIdeal.threads (F := Bits) := rfl

open Cert.KernelIdeal in
/-- The frame at machine words, in the idealized program's names. -/
theorem frame_words (m : (ℓ : Loc nD τ sig) → Buf (Elt Bits) ℓ) (ρ : Dev nD → PrngReg) (ht : Call.TokensOK m) :
    θ_run (defs (F := Bits)) threads ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun _ h => ⟨fun c => ⟨(h.1 c).1, (h.1 c).2.1⟩, h.2⟩) (Main.run_main m ρ ht)

theorem frame_p : Cert.quiescent_Kernel := fun m ρ hpre => by
  rw [defs_eq, threads_eq]
  exact frame_words m ρ fun d r => tokens_of_pre _ _ (hpre d) r

end Cert.Proof.Frames

end
-- ==== Proof.Loss.lean ====
/-
  The loss over the reals: what one entry of the table adds, and what a row adds, summed.
-/
module

public import proofs.«01_k».proof.Proof.Values
public import Mathlib.Analysis.SpecialFunctions.Log.Basic
public import Mathlib.Data.EReal.Operations

@[expose] public section

noncomputable section

namespace Cert.Proof.Loss

open Cert.Proof.Values

/-- The smoothed target of a row with token `v`, at column `c`: nothing for the padding token 0 and at column 0, the
    confidence 9/10 at the token's own column, and the rest of the mass in equal parts over the 31998 other columns. -/
def target (v : BitVec 32) (c : Fin 32000) : ℝ :=
  if v = 0#32 then 0 else if c = 0 then 0 else if c = colOf v then 9 / 10 else 1 / 319980

/-- What an entry adds, `a` the log-probability there. -/
def entry (v : BitVec 32) (c : Fin 32000) (a : ℝ) : ℝ := target v c * (Real.log (target v c) - a)

/-- The part of a row's sum that does not depend on the log-probabilities. -/
def konst : ℝ := 1 / 10 * Real.log (129140163 / 106660000000000)

/-- The part of a row's sum that the column sums give, -/
def dense (v : BitVec 32) (a : Fin 32000 → ℝ) : ℝ := if v = 0#32 then 0 else konst + 1 / 319980 * (a 0 - ∑ c, a c)

/-- and the part that the token's own entry gives. -/
def sparse (v : BitVec 32) (a : ℝ) : ℝ := 287981 / 319980 * ((if v = 0#32 then 0 else 1) * a)

theorem target_nonneg (v : BitVec 32) (c : Fin 32000) : 0 ≤ target v c := by
  unfold target; split_ifs <;> norm_num

theorem konst_eq : konst = 31998 * (1 / 319980 * Real.log (1 / 319980)) + 9 / 10 * Real.log (9 / 10) := by
  have e : (129140163 / 106660000000000 : ℝ) = 1 / 319980 * (9 / 10) ^ 9 := by norm_num
  unfold konst
  rw [e, Real.log_mul (by norm_num) (by norm_num), Real.log_pow]
  push_cast; ring

theorem colOf_ne {v : BitVec 32} (h : v.toNat < 32000) (h0 : v ≠ 0#32) : colOf v ≠ 0 := fun e => h0 (by
  have := congrArg Fin.val e
  simp only [colOf, Nat.mod_eq_of_lt h] at this
  exact BitVec.eq_of_toNat_eq (by simpa using this))

/-- A row's sum. -/
theorem row_sum {v : BitVec 32} (h : v.toNat < 32000) (a : Fin 32000 → ℝ) :
    ∑ c, entry v c (a c) = dense v a - sparse v (a (colOf v)) := by
  by_cases h0 : v = 0#32
  · simp [entry, target, dense, sparse, h0]
  · have hc := colOf_ne h h0
    have e : ∀ c, entry v c (a c) = (1 / 319980 * Real.log (1 / 319980) - 1 / 319980 * a c)
        + (if c = 0 then -(1 / 319980 * (Real.log (1 / 319980) - a 0)) else 0)
        + (if c = colOf v then 9 / 10 * (Real.log (9 / 10) - a (colOf v)) - 1 / 319980 * (Real.log (1 / 319980) - a (colOf v)) else 0) := fun c => by
      unfold entry target
      rw [if_neg h0]
      by_cases c0 : c = 0
      · subst c0
        simp only [if_true, if_neg (Ne.symm hc)]
        ring
      · by_cases c1 : c = colOf v
        · subst c1
          simp only [if_true, if_neg c0]
          ring
        · simp only [if_neg c0, if_neg c1]
          ring
    rw [Finset.sum_congr rfl fun c _ => e c, Finset.sum_add_distrib, Finset.sum_add_distrib, Finset.sum_ite_eq' Finset.univ, Finset.sum_ite_eq' Finset.univ,
      Finset.sum_sub_distrib, ← Finset.mul_sum Finset.univ a (1 / 319980), Finset.sum_const]
    simp only [Finset.mem_univ, if_true, Finset.card_univ, Fintype.card_fin, nsmul_eq_mul, dense, sparse, if_neg h0, konst_eq]
    push_cast; ring

/-- A sum of reals, taken among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Proof.Loss

end
-- ==== Proof.Scatter.lean ====
/-
  A scatter that sets one entry in every row of a matrix: row `a`'s entry is at the column that the `a`-th pair of index
  words names.
-/
module

public import Idealize.ShloMosaic.Lib.Routing.OpsOne
public import Idealize.ShloMosaic.Lib.Routing.OpsSet

@[expose] public section

namespace Cert.Proof.Scatter

open Idealize.ShloMosaic Idealize.ShloMosaic.Routing Idealize.ShloMosaic.ValueIdx

variable {R C A : ℕ}

theorem mem_two : ∀ q : Fin 2, q ∈ ([0, 1] : List (Fin 2)) := by decide
theorem pos_two : ∀ q : Fin 2, ([0, 1] : List (Fin 2)).idxOf q = q.val := by decide

/-- Update `a` reads component `q` of its start at the index words' entry `(a, q)`, -/
theorem siIdx_eq (d : ScatterDims (shape2 R C) (shape2 A 2) (shape1 A)) (hv : d.indexVectorDim = 1)
    (a : Fin A) (q : Fin 2) (n : Fin d.scatterDimsToOperandDims.length) (hn : n.val = q.val) : d.siIdx (ix1 a) n = ix2 a q := by
  have at0 : ∀ X : Fin 1, (ix1 a X).val = a.val := fun X => by
    obtain rfl : X = 0 := Subsingleton.elim _ _
    rfl
  funext b
  apply Fin.ext
  match b with
  | ⟨0, _⟩ =>
    unfold ScatterDims.siIdx
    rw [dif_neg (by rw [hv]; exact Nat.zero_ne_one)]
    exact at0 _
  | ⟨1, _⟩ =>
    unfold ScatterDims.siIdx
    rw [dif_pos (by rw [hv])]
    exact hn

/-- so it lands at `(r, c)` exactly when its two words, read signed, are `r` and `c`. -/
theorem lands (d : ScatterDims (shape2 R C) (shape2 A 2) (shape1 A)) (hi : d.insertedWindowDims = [0, 1])
    (hs : d.scatterDimsToOperandDims = [0, 1]) (hv : d.indexVectorDim = 1) (idx : IVec (shape2 A 2) 32) (a : Fin A) (r : Fin R) (c : Fin C) :
    d.resultIdx? (ix1 a) idx = some (ix2 r c) ↔ (idx (ix2 a 0)).toInt = r.val ∧ (idx (ix2 a 1)).toInt = c.val := by
  have win : ∀ q : Fin 2, d.window (ix1 a) q = 0 := fun q => by
    unfold ScatterDims.window
    rw [dif_neg fun h => (of_decide_eq_true (List.mem_filter.1 h).2) (by rw [hi]; exact mem_two q)]
  have st : ∀ q : Fin 2, d.start (ix1 a) idx q = (idx (ix2 a q)).toInt := fun q => by
    have hm : q ∈ d.scatterDimsToOperandDims := by rw [hs]; exact mem_two q
    unfold ScatterDims.start
    rw [dif_pos hm]
    refine congrArg (fun i => (idx i).toInt) (siIdx_eq d hv a q _ ?_)
    show d.scatterDimsToOperandDims.idxOf q = q.val
    rw [hs]; exact pos_two q
  rw [resultIdx?_ix2, win, win, st, st]
  simp

/-- Where row `a`'s words are `a` itself and a column `col a`: the entry at `(r, col r)` is row `r`'s update, every other
    entry the operand's. -/
theorem set_rows {α : Type} (d : ScatterDims (shape2 R C) (shape2 R 2) (shape1 R)) (hi : d.insertedWindowDims = [0, 1])
    (hs : d.scatterDimsToOperandDims = [0, 1]) (hv : d.indexVectorDim = 1) (x : (shape2 R C).Idx → α) (idx : IVec (shape2 R 2) 32)
    (u : (shape1 R).Idx → α) (col : Fin R → Fin C) (h0 : ∀ a : Fin R, (idx (ix2 a 0)).toInt = a.val)
    (h1 : ∀ a : Fin R, (idx (ix2 a 1)).toInt = (col a).val) (r : Fin R) (c : Fin C) :
    Host.scatter d (fun _ b => b) x idx u (ix2 r c) = if c = col r then u (ix1 r) else x (ix2 r c) := by
  have key : ∀ j : (shape1 R).Idx, d.resultIdx? j idx = some (ix2 r c) → j = ix1 r ∧ c = col r := fun j hj => by
    obtain ⟨a, rfl⟩ : ∃ a : Fin R, j = ix1 a := ⟨j 0, eq_ix1 j⟩
    have h := (lands d hi hs hv idx a r c).1 hj
    rw [h0, h1] at h
    have e : a = r := Fin.ext (by have := h.1; omega)
    subst e
    exact ⟨rfl, Fin.ext (by have := h.2; omega)⟩
  by_cases e : c = col r
  · rw [if_pos e]
    exact scatter_set_hit d x idx u _ _ (fun j hj => congrArg u (key j hj).1) (ix1 r)
      ((lands d hi hs hv idx r r c).2 ⟨h0 r, by rw [h1, e]⟩)
  · rw [if_neg e]
    exact scatter_set_miss d x idx u _ fun j hj => e (key j hj).2

/-- A scatter of a column `k`: the entries of that column are the updates, every other entry the operand's. -/
theorem set_col {α : Type} (d : ScatterDims (shape2 R C) (shape1 1) (shape1 R)) (hi : d.insertedWindowDims = [1])
    (hs : d.scatterDimsToOperandDims = [1]) (x : (shape2 R C).Idx → α) (idx : IVec (shape1 1) 32) (u : (shape1 R).Idx → α)
    (k : Fin C) (hk : (idx (ix1 0)).toInt = k.val) (r : Fin R) (c : Fin C) :
    Host.scatter d (fun _ b => b) x idx u (ix2 r c) = if c = k then u (ix1 r) else x (ix2 r c) := by
  have key : ∀ j : (shape1 R).Idx, d.resultIdx? j idx = some (ix2 r c) → j = ix1 r ∧ c = k := fun j hj => by
    obtain ⟨a, rfl⟩ : ∃ a : Fin R, j = ix1 a := ⟨j 0, eq_ix1 j⟩
    have h := (lands_col d hi hs idx k hk a r c).1 hj
    exact ⟨congrArg ix1 h.1, h.2⟩
  by_cases e : c = k
  · rw [if_pos e]
    exact scatter_set_hit d x idx u _ _ (fun j hj => congrArg u (key j hj).1) (ix1 r) ((lands_col d hi hs idx k hk r r c).2 ⟨rfl, e⟩)
  · rw [if_neg e]
    exact scatter_set_miss d x idx u _ fun j hj => e (key j hj).2

end Cert.Proof.Scatter
-- ==== Proof.Reference.lean ====
/-
  What the reference program computes, over the extended reals: its table of smoothed targets entry by entry, then its sum,
  the loss of Proof/Loss.lean wherever the log-probabilities are real numbers and the tokens name columns.
-/
module

public import proofs.«01_k».proof.Defs
public import proofs.«01_k».proof.Proof.Loss
public import proofs.«01_k».proof.Proof.Scatter
public import proofs.«01_k».proof.Proof.Gen.ReferenceIdeal.Run
public import proofs.«01_k».proof.Proof.Gen.Pre_finite_and_in_range
public import Idealize.ShloMosaic.Lib.Pointwise

@[expose] public section

noncomputable section

namespace Cert.Proof.Reference

open Cert.ReferenceIdeal Cert.ReferenceIdeal.Gen Cert.Proof.Values Cert.Proof.Loss
open Idealize.ShloMosaic hiding ix1 ix2
open Idealize.ShloMosaic.ValueIdx Idealize.SL.Sem

/-! ## Its stages -/

/-- The mass kept off the target, a tenth; -/
def tenth : FVec Ideal S_ .f32 := Host.divf (constant S_ .f32 0x3F800000#32) (constant S_ .f32 0x41200000#32)

/-- a position's index, and a token, as the program hands them to its scatter: a negative one counts from the end. -/
def pos : IVec S2048 32 :=
  select (cmpi .slt (iotaInDim S2048 32 0) (broadcastInDim S2048 ![] bcast_S_S2048 (constantI S_ 32 0#32)))
    (addi (iotaInDim S2048 32 0) (broadcastInDim S2048 ![] bcast_S_S2048 (constantI S_ 32 2048#32))) (iotaInDim S2048 32 0)

def tok (t : IVec S2048 32) : IVec S2048 32 :=
  select (cmpi .slt t (broadcastInDim S2048 ![] bcast_S_S2048 (constantI S_ 32 0#32)))
    (addi t (broadcastInDim S2048 ![] bcast_S_S2048 (constantI S_ 32 32000#32))) t

/-- The pairs (position, token). -/
def pairs (t : IVec S2048 32) : IVec S2048x2 32 :=
  concatenate S2048x2 1 [⟨S2048x1, broadcastInDim S2048x1 ![0] bcast_S2048_S2048x1_0 pos⟩,
    ⟨S2048x1, broadcastInDim S2048x1 ![0] bcast_S2048_S2048x1_0 (tok t)⟩] concatenates_S2048x1_S2048x1_S2048x2_d1

/-- The table with the confidence at every row's own token, -/
def peaked (t : IVec S2048 32) : FVec Ideal S2048x32000 .f32 :=
  Host.scatter scatter_S2048x32000_S2048x2_S2048_n_01_01_1 (fun _ b => b)
    (broadcastInDim S2048x32000 ![] bcast_S_S2048x32000 (Host.divf tenth (constant S_ .f32 0x46F9FC00#32))) (pairs t)
    (broadcastInDim S2048 ![] bcast_S_S2048 (subf (constant S_ .f32 0x3F800000#32) tenth))

/-- column 0 cleared, and the rows of the padding token. -/
def smoothed (t : IVec S2048 32) : FVec Ideal S2048x32000 .f32 :=
  select (broadcastInDim S2048x32000 ![0, 1] bcast_S2048x1_S2048x32000_0_1
      (broadcastInDim S2048x1 ![0] bcast_S2048_S2048x1_0 (cmpi .eq t (broadcastInDim S2048 ![] bcast_S_S2048 (constantI S_ 32 0#32)))))
    (broadcastInDim S2048x32000 ![] bcast_S_S2048x32000 (id (constant S_ .f32 0x00000000#32)))
    (Host.scatter scatter_S2048x32000_S1_S2048_0_1_1_0 (fun _ b => b) (peaked t) (broadcastInDim S1 ![] bcast_S_S1 (constantI S_ 32 0#32))
      (broadcastInDim S2048 ![] bcast_S_S2048 (constant S_ .f32 0x00000000#32)))

/-- What each entry adds, from a table `s` of targets. -/
def points (s x : FVec Ideal S2048x32000 .f32) : FVec Ideal S2048x32000 .f32 :=
  select (cmpf .ogt s (broadcastInDim S2048x32000 ![] bcast_S_S2048x32000 (constant S_ .f32 0x00000000#32)))
    (mulf s (subf (Host.log (select (cmpf .ogt s (broadcastInDim S2048x32000 ![] bcast_S_S2048x32000 (constant S_ .f32 0x00000000#32))) s
      (broadcastInDim S2048x32000 ![] bcast_S_S2048x32000 (id (constant S_ .f32 0x3F800000#32))))) x))
    (broadcastInDim S2048x32000 ![] bcast_S_S2048x32000 (id (constant S_ .f32 0x00000000#32)))

/-- The program's result. -/
def total (x : FVec Ideal S2048x32000 .f32) (t : IVec S2048 32) : FVec Ideal S_ .f32 :=
  Host.reduceAdd (points (smoothed t) x) (constant S_ .f32 0x00000000#32) reducesTo_S2048x32000_S_d0_1 h_S_

theorem result_eq (m : (ℓ : Loc nD τ sig) → Buf (Elt Ideal) ℓ) (c : Dev nD) :
    Value.res_out0 m c = total (m ((c.tc : Thread nD τ).loc main_arg0)) (m ((c.tc : Thread nD τ).loc main_arg1)) := by
  unfold Value.res_out0 Value.res_main_v36
  rfl

/-! ## Their entries -/

theorem ofBits_ten : Ideal.ofBits .f32 0x41200000#32 = ((10 : ℝ) : EReal) := by
  simp [Ideal.ofBits, Ideal.ieee]
  rw [← EReal.coe_mul]; norm_num

theorem ofBits_31998 : Ideal.ofBits .f32 0x46F9FC00#32 = ((31998 : ℝ) : EReal) := by
  simp [Ideal.ofBits, Ideal.ieee]
  rw [← EReal.coe_mul]; norm_num

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem tenth_apply (i : S_.Idx) : tenth i = ((1 / 10 : ℝ) : EReal) := by
  show Ideal.div (Ideal.ofBits .f32 0x3F800000#32) (Ideal.ofBits .f32 0x41200000#32) = _
  rw [ofBits_ten, Ideal.ofBits_one_f32, ← EReal.coe_one, div_coe _ _ (by norm_num)]

theorem part_apply (i : S_.Idx) : Host.divf tenth (constant S_ .f32 0x46F9FC00#32) i = ((1 / 319980 : ℝ) : EReal) := by
  show Ideal.div (tenth i) (Ideal.ofBits .f32 0x46F9FC00#32) = _
  rw [ofBits_31998, tenth_apply, div_coe _ _ (by norm_num)]
  norm_num

theorem confidence_apply (i : S_.Idx) : subf (constant S_ .f32 0x3F800000#32) tenth i = ((9 / 10 : ℝ) : EReal) := by
  show Ideal.ofBits .f32 0x3F800000#32 - tenth i = _
  rw [tenth_apply, Ideal.ofBits_one_f32, ← EReal.coe_one, ← EReal.coe_sub]
  norm_num

theorem pos_apply (r : Fin 2048) : pos (ix1 r) = BitVec.ofNat 32 r.val :=
  Routing.wrap_of_lt _ _ (by rw [iotaInDim_apply, BitVec.toNat_ofNat]; have := r.isLt; simp only [ix1]; omega)

theorem tok_apply (t : IVec S2048 32) (r : Fin 2048) (h : (t (ix1 r)).toNat < 32000) : tok t (ix1 r) = t (ix1 r) :=
  Routing.wrap_of_lt _ _ (by norm_num; omega)

theorem column_apply {α : Type} (f : S2048.Idx → α) (r : Fin 2048) :
    broadcastInDim S2048x1 ![0] bcast_S2048_S2048x1_0 f (ix2 r 0) = f (ix1 r) :=
  broadcastInDim_apply _ _ f _ _ fun a => by match a with | ⟨0, _⟩ => rfl

theorem pairs_pos (t : IVec S2048 32) (r : Fin 2048) : pairs t (ix2 r 0) = BitVec.ofNat 32 r.val := by
  rw [← pos_apply, ← column_apply pos]
  refine concatenate_pair_apply_left (t := S2048x2) 1 _ _ concatenates_S2048x1_S2048x1_S2048x2_d1 (ix2 r 0) rfl (ix2 r 0) fun b => ?_
  match b with
  | ⟨0, _⟩ => rfl
  | ⟨1, _⟩ => rfl

theorem pairs_tok (t : IVec S2048 32) (r : Fin 2048) (h : (t (ix1 r)).toNat < 32000) : pairs t (ix2 r 1) = t (ix1 r) := by
  rw [← tok_apply t r h, ← column_apply (tok t)]
  refine concatenate_pair_apply_right (t := S2048x2) 1 _ _ concatenates_S2048x1_S2048x1_S2048x2_d1 (ix2 r 1) rfl rfl (ix2 r 0) (fun b hb => ?_) rfl
  match b with
  | ⟨0, _⟩ => rfl
  | ⟨1, _⟩ => exact absurd rfl hb

theorem toInt_small {v : BitVec 32} (h : v.toNat < 32000) : v.toInt = v.toNat := by
  rw [BitVec.toInt_eq_toNat_cond, if_pos (by omega)]

variable {t : IVec S2048 32}

theorem peaked_apply (ht : ∀ r, (t r).toNat < 32000) (r : Fin 2048) (c : Fin 32000) :
    peaked t (ix2 r c) = if c = colOf (t (ix1 r)) then ((9 / 10 : ℝ) : EReal) else ((1 / 319980 : ℝ) : EReal) := by
  unfold peaked
  rw [Scatter.set_rows _ rfl rfl rfl _ _ _ (fun a => colOf (t (ix1 a)))
    (fun a => by
      rw [pairs_pos, toInt_small (by rw [BitVec.toNat_ofNat]; have := a.isLt; omega), BitVec.toNat_ofNat]
      have := a.isLt; omega)
    (fun a => by
      rw [pairs_tok t a (ht _), toInt_small (ht _)]
      simp only [colOf, Nat.mod_eq_of_lt (ht _)])]
  rw [broadcastInDim_scalar_apply, broadcastInDim_scalar_apply, confidence_apply, part_apply]

theorem pad_apply {α : Type} (f : S2048.Idx → α) (r : Fin 2048) (c : Fin 32000) :
    broadcastInDim S2048x32000 ![0, 1] bcast_S2048x1_S2048x32000_0_1 (broadcastInDim S2048x1 ![0] bcast_S2048_S2048x1_0 f) (ix2 r c) = f (ix1 r) :=
  (broadcastInDim_apply _ _ _ _ (ix2 r 0) fun a => by match a with | ⟨0, _⟩ => rfl | ⟨1, _⟩ => rfl).trans (column_apply f r)

theorem select_eq_word {α : Type} (v w : BitVec 32) (a b : α) : Scalar.select (IntOp.cmpi .eq v w) a b = if v = w then a else b := by
  by_cases h : v = w
  · subst h; simp [IntOp.cmpi, Scalar.select]
  · have e : (v == w) = false := by simpa using h
    simp [IntOp.cmpi, Scalar.select, h, e]

/-- The table of smoothed targets. -/
theorem smoothed_apply (ht : ∀ r, (t r).toNat < 32000) (r : Fin 2048) (c : Fin 32000) :
    smoothed t (ix2 r c) = ((target (t (ix1 r)) c : ℝ) : EReal) := by
  unfold smoothed
  rw [select_apply, pad_apply, Scatter.set_col _ rfl rfl _ _ _ (0 : Fin 32000) (by rw [broadcastInDim_scalar_apply]; rfl),
    peaked_apply ht, broadcastInDim_scalar_apply, broadcastInDim_scalar_apply]
  show Scalar.select (IntOp.cmpi .eq (t (ix1 r)) _) (Ideal.ofBits .f32 0x00000000#32) (if c = 0 then Ideal.ofBits .f32 0x00000000#32 else _) = _
  rw [broadcastInDim_scalar_apply, Ideal.ofBits_zero_f32]
  refine (select_eq_word _ _ _ _).trans ?_
  unfold target
  show (if t (ix1 r) = 0#32 then (0 : EReal) else _) = _
  split_ifs <;> rfl

/-- An entry's term at a nonnegative real target and a real log-probability. -/
theorem point_coe (s a : ℝ) (hs : 0 ≤ s) :
    Scalar.select (Ideal.cmp .ogt (s : EReal) 0) ((s : EReal) * (Ideal.log (Scalar.select (Ideal.cmp .ogt (s : EReal) 0) (s : EReal) 1) - (a : EReal))) 0
      = ((s * (Real.log s - a) : ℝ) : EReal) := by
  rcases hs.eq_or_lt with h | h
  · subst h
    simp [Ideal.cmp, Scalar.select]
  · have e : Ideal.cmp .ogt (s : EReal) 0 = 1#1 := by
      have : (0 : EReal) < (s : EReal) := by exact_mod_cast h
      simp [Ideal.cmp, this]
    rw [e, select_one, select_one, EReal.coe_mul, EReal.coe_sub]
    show (s : EReal) * ((if s ≤ 0 then ⊥ else (Real.log s : EReal)) - (a : EReal)) = _
    rw [if_neg (not_le.2 h)]

theorem points_apply (ht : ∀ r, (t r).toNat < 32000) (x : FVec Ideal S2048x32000 .f32) (X : Fin 2048 → Fin 32000 → ℝ)
    (hx : ∀ r c, x (ix2 r c) = ((X r c : ℝ) : EReal)) (r : Fin 2048) (c : Fin 32000) :
    points (smoothed t) x (ix2 r c) = ((entry (t (ix1 r)) c (X r c) : ℝ) : EReal) := by
  refine Eq.trans ?_ (point_coe (target (t (ix1 r)) c) (X r c) (target_nonneg _ _))
  rw [← smoothed_apply ht r c, ← hx, ← Ideal.ofBits_zero_f32, ← Ideal.ofBits_one_f32]
  rfl

/-- The reference's result. -/
theorem total_apply (ht : ∀ r, (t r).toNat < 32000) (x : FVec Ideal S2048x32000 .f32) (X : Fin 2048 → Fin 32000 → ℝ)
    (hx : ∀ r c, x (ix2 r c) = ((X r c : ℝ) : EReal)) (i : S_.Idx) :
    total x t i = ((∑ r, ∑ c, entry (t (ix1 r)) c (X r c) : ℝ) : EReal) := by
  unfold total
  rw [hostReduceAdd_apply, Ideal.hostReduceAdd_r2_a01]
  show Ideal.ofBits .f32 0x00000000#32 + _ = _
  rw [Ideal.ofBits_zero_f32, zero_add, ← coe_sum]
  refine Finset.sum_congr rfl fun r _ => ?_
  rw [← coe_sum]
  exact Finset.sum_congr rfl fun c _ => points_apply ht x X hx r c

/-! ## Its frames -/

theorem frame_ri : Cert.quiescent_ReferenceIdeal := fun m ρ _ =>
  (θ_run defs _ _).mono (fun r h => ⟨fun c => (h c).2, sem_eq_zero_of_no_sems (by decide) r.2⟩) (Value.run (F := Ideal) m ρ)

theorem frame_ri_finite : Cert.quiescent_ReferenceIdeal_pre_finite_and_in_range := fun m ρ _ => frame_ri m ρ trivial

end Cert.Proof.Reference

end
-- ==== Proof.Sums.lean ====
/-
  What the kernel program computes, over the extended reals, wherever the log-probabilities are real numbers: its
  TensorCore call the rows' dense parts, its SparseCore call the rows' sparse parts, the host the difference of the sums.
-/
module

public import proofs.«01_k».proof.Proof.Main
public import proofs.«01_k».proof.Proof.Loss
public import Idealize.ShloMosaic.Lib.Pointwise

@[expose] public section

noncomputable section

namespace Cert.Proof.Sums

open Cert.KernelIdeal Cert.KernelIdeal.Gen Cert.Proof.Values Cert.Proof.Loss Cert.Proof.Canon
open Idealize.ShloMosaic hiding ix1 ix2 ix3
open Idealize.ShloMosaic.ValueIdx

/-! ## Words and constants -/

theorem select_ne_word {α : Type} (v w : BitVec 32) (a b : α) : Scalar.select (IntOp.cmpi .ne v w) a b = if v = w then b else a := by
  by_cases h : v = w
  · subst h; simp [IntOp.cmpi, Scalar.select]
  · have e : (v != w) = true := by simpa using h
    simp [IntOp.cmpi, Scalar.select, h, e]

theorem named_conf : (Named.named κ "conf_less_redist" 0x3F666632#32 : Ideal .f32) = ((287981 / 319980 : ℝ) : EReal) := rfl
theorem named_redist : (Named.named κ "redist" 0x3651BA72#32 : Ideal .f32) = ((1 / 319980 : ℝ) : EReal) := rfl
theorem named_konst : (Named.named κ "k_const" 0xBFAE63F8#32 : Ideal .f32) = ((konst : ℝ) : EReal) := rfl

/-! ## The TensorCore call -/

/-- A kernel's sum along the second axis, at a row. -/
theorem rowAdd_apply {n0 n1 : ℕ} (v : FVec Ideal ⟨2, ![n0, n1]⟩ .f32) (h : (⟨2, ![n0, n1]⟩ : Shape).Reduces [1] ⟨1, ![n0]⟩) (r : Fin n0) :
    multiReduction .add [1] ⟨1, ![n0]⟩ v 0x00000000#32 h (.inl rfl) rfl (ix1 r) = ∑ k, v (ix2 r k) :=
  Ideal.reduceAdd_r2_a1 h v (ix1 r)

/-- The 32 rows' values in a point's body. -/
def rowVals (xb : Vec Ideal S32x32000 .f32) (tb : Vec Ideal S1x1x32 .i32) : FVec Ideal S32 .f32 :=
  select (cmpi .ne (shapeCast S32 tb shapeCasts_S1x1x32_S32) (broadcast S32 0#32))
    (addf (broadcast S32 (Named.named κ "k_const" 0xBFAE63F8#32 : Ideal .f32))
      (mulf (broadcast S32 (Named.named κ "redist" 0x3651BA72#32 : Ideal .f32))
        (subf (shapeCast S32 (extractStridedSlice S32x1 ![0, 0] xb slices_S32x32000_o0_0_S32x1) shapeCasts_S32x1_S32)
          (multiReduction .add [1] S32 xb 0x00000000#32 reduces_S32x32000_S32 (.inl rfl) rfl))))
    (broadcast S32 (Scalar.ofBits .f32 0x00000000#32 : Ideal .f32))

theorem part_eq (xb : Vec Ideal S32x32000 .f32) (tb : Vec Ideal S1x1x32 .i32) :
    Body.part xb tb = ∑ k : Fin 32, rowVals xb tb (ix1 k) := by
  show shapeCast S1x1 (multiReduction .add [1] S1 (shapeCast S1x32 (rowVals xb tb) shapeCasts_S32_S1x32)
    0x00000000#32 reduces_S1x32_S1 (.inl rfl) rfl) shapeCasts_S1_S1x1 _ = _
  rw [shapeCast_apply _ _ _ (ix1 (0 : Fin 1)) (by
    rw [Shape.rowMajor_val_one, Shape.rowMajor_val_two]; rfl)]
  refine (rowAdd_apply (n0 := 1) (n1 := 32) _ _ 0).trans (Finset.sum_congr rfl fun k _ => ?_)
  exact shapeCast_apply _ _ _ (ix1 k) (by
    rw [Shape.rowMajor_val_one, Shape.rowMajor_val_two]; simp)

theorem rowVals_apply (xb : Vec Ideal S32x32000 .f32) (tb : Vec Ideal S1x1x32 .i32) (k : Fin 32) (a : Fin 32000 → ℝ)
    (hx : ∀ c, xb (ix2 k c) = ((a c : ℝ) : EReal)) : rowVals xb tb (ix1 k) = ((dense (tb (ix3 0 0 k)) a : ℝ) : EReal) := by
  have e0 : shapeCast S32 tb shapeCasts_S1x1x32_S32 (ix1 k) = tb (ix3 0 0 k) := shapeCast_apply _ _ _ _ (by
    rw [Shape.rowMajor_val_one, Shape.rowMajor_val_three]; simp)
  have e1 : shapeCast S32 (extractStridedSlice S32x1 ![0, 0] xb slices_S32x32000_o0_0_S32x1) shapeCasts_S32x1_S32 (ix1 k) = ((a 0 : ℝ) : EReal) := by
    rw [shapeCast_apply _ _ _ (ix2 k (0 : Fin 1)) (by rw [Shape.rowMajor_val_one, Shape.rowMajor_val_two]; simp), ← hx]
    refine congrArg xb (funext fun d => Fin.ext ?_)
    match d with
    | ⟨0, _⟩ => exact Nat.zero_add _
    | ⟨1, _⟩ => rfl
  have e2 : multiReduction (F := Ideal) .add [1] S32 xb 0x00000000#32 reduces_S32x32000_S32 (.inl rfl) rfl (ix1 k) = ((∑ c, a c : ℝ) : EReal) := by
    refine (rowAdd_apply (n0 := 32) (n1 := 32000) xb _ k).trans ?_
    rw [← coe_sum]
    exact Finset.sum_congr rfl fun c _ => hx c
  refine (select_ne_word (shapeCast S32 tb shapeCasts_S1x1x32_S32 (ix1 k)) 0#32 _ _).trans ?_
  rw [e0]
  unfold dense
  by_cases h : tb (ix3 0 0 k) = 0#32
  · rw [if_pos h, if_pos h]
    exact Ideal.ofBits_zero_f32
  · rw [if_neg h, if_neg h]
    show (Named.named κ "k_const" 0xBFAE63F8#32 : Ideal .f32) + (Named.named κ "redist" 0x3651BA72#32 : Ideal .f32)
      * (shapeCast S32 (extractStridedSlice S32x1 ![0, 0] xb slices_S32x32000_o0_0_S32x1) shapeCasts_S32x1_S32 (ix1 k)
        - multiReduction .add [1] S32 xb 0x00000000#32 reduces_S32x32000_S32 (.inl rfl) rfl (ix1 k)) = _
    rw [e1, e2, named_konst, named_redist, EReal.coe_add, EReal.coe_mul, EReal.coe_sub]

/-- Row `k` of grid point `n`, among the 2048. -/
def gridRow (n : Fin 64) (k : Fin 32) : Fin 2048 := ⟨32 * n.val + k.val, by omega⟩

variable {x : FVec Ideal S2048x32000 .f32} {X : Fin 2048 → Fin 32000 → ℝ} (hx : ∀ r c, x (ix2 r c) = ((X r c : ℝ) : EReal))
  (t : IVec S2048 32)

theorem rows_apply (n : Fin 64) (k : Fin 32) : Main.rows (F := Ideal) t (ix3 n 0 k) = t (ix1 (gridRow n k)) :=
  shapeCast_apply _ _ _ _ (by
    rw [Shape.rowMajor_val_one, Shape.rowMajor_val_three]
    simp [gridRow]; omega)

include hx in
theorem part_coe (n : Fin 64) : Body.part (F := Ideal) (Region.xBlk x n) (Region.tBlk (Main.rows t) n)
    = ((∑ k, dense (t (ix1 (gridRow n k))) (X (gridRow n k)) : ℝ) : EReal) := by
  rw [part_eq, ← coe_sum]
  refine Finset.sum_congr rfl fun k _ => ?_
  rw [rowVals_apply _ _ k (X (gridRow n k)) fun c => hx _ _]
  exact congrArg (fun v => ((dense v (X (gridRow n k)) : ℝ) : EReal)) (rows_apply t n k)

include hx in
theorem acc_coe : ∀ n : ℕ, n ≤ 64 → Region.acc (F := Ideal) x (Main.rows t) n
    = ((∑ j ∈ Finset.range n, ∑ k, dense (t (ix1 (gridRow ⟨j % 64, Nat.mod_lt _ (by decide)⟩ k))) (X (gridRow ⟨j % 64, Nat.mod_lt _ (by decide)⟩ k)) : ℝ) : EReal)
  | 0, _ => by
    rw [Finset.range_zero, Finset.sum_empty]
    exact Ideal.ofBits_zero_f32
  | n + 1, h => by
    rw [Finset.sum_range_succ, EReal.coe_add, ← acc_coe n (by omega), ← part_coe hx t]
    rfl

/-- The rows, by grid point and row of the point; -/
def byGrid : Fin 64 × Fin 32 ≃ Fin 2048 where
  toFun p := gridRow p.1 p.2
  invFun r := (⟨r.val / 32, by omega⟩, ⟨r.val % 32, by omega⟩)
  left_inv p := by
    obtain ⟨n, k⟩ := p
    refine Prod.ext (Fin.ext ?_) (Fin.ext ?_)
    · show (32 * n.val + k.val) / 32 = n.val
      omega
    · show (32 * n.val + k.val) % 32 = k.val
      omega
  right_inv r := Fin.ext (by show 32 * (r.val / 32) + r.val % 32 = r.val; omega)

/-- by sum of the SparseCore call's 512 and the group that adds the row to it. -/
def bySum : Fin 512 × Fin 4 ≃ Fin 2048 where
  toFun p := rowOf ⟨p.1.val / 16, by omega⟩ (laneOf p.2 ⟨p.1.val % 16, by omega⟩)
  invFun r := (⟨16 * (r.val / 64) + r.val % 16, by omega⟩, ⟨r.val % 64 / 16, by omega⟩)
  left_inv p := by
    obtain ⟨k, g⟩ := p
    refine Prod.ext (Fin.ext ?_) (Fin.ext ?_)
    · show 16 * ((64 * (k.val / 16) + (16 * g.val + k.val % 16)) / 64) + (64 * (k.val / 16) + (16 * g.val + k.val % 16)) % 16 = k.val
      omega
    · show (64 * (k.val / 16) + (16 * g.val + k.val % 16)) % 64 / 16 = g.val
      omega
  right_inv r := Fin.ext (by
    show 64 * ((16 * (r.val / 64) + r.val % 16) / 16) + (16 * (r.val % 64 / 16) + (16 * (r.val / 64) + r.val % 16) % 16) = r.val
    omega)

include hx in
/-- The TensorCore's running sum at the end: the rows' dense parts. -/
theorem dense_total : Region.acc (F := Ideal) x (Main.rows t) 64 = ((∑ r, dense (t (ix1 r)) (X r) : ℝ) : EReal) := by
  rw [acc_coe hx t 64 le_rfl, ← Equiv.sum_comp byGrid, Fintype.sum_prod_type, Finset.sum_range]
  refine congrArg _ (Finset.sum_congr rfl fun n _ => ?_)
  have e : (⟨n.val % 64, Nat.mod_lt _ (by decide)⟩ : Fin 64) = n := Fin.ext (Nat.mod_eq_of_lt n.isLt)
  rw [e]
  rfl

/-! ## The SparseCore call -/

/-- A group's step at a lane. -/
theorem step_coe (acc : FVec Ideal S16 .f32) (tv : Vec Ideal S16 .i32) (gv : Vec Ideal S16 .f32) (i : S16.Idx) (A a : ℝ)
    (hA : acc i = (A : EReal)) (ha : gv i = (a : EReal)) :
    accStep acc tv gv i = ((A + (if tv i = 0#32 then 0 else 1) * a : ℝ) : EReal) := by
  show acc i + Scalar.select (IntOp.cmpi .ne (tv i) 0#32) (Ideal.ofBits .f32 0x3F800000#32) (Ideal.ofBits .f32 0x00000000#32) * gv i = _
  rw [hA, ha, select_ne_word, Ideal.ofBits_zero_f32, Ideal.ofBits_one_f32, EReal.coe_add, EReal.coe_mul]
  split_ifs <;> rfl

include hx in
theorem sums_coe (w : Fin 32) (l : Fin 16) : ∀ n : ℕ, n ≤ 4 → sums x t w n (ix1 l)
    = ((∑ j ∈ Finset.range n, (if t (ix1 (rowOf w (laneOf ⟨j % 4, Nat.mod_lt _ (by decide)⟩ l))) = 0#32 then 0 else 1)
        * X (rowOf w (laneOf ⟨j % 4, Nat.mod_lt _ (by decide)⟩ l)) (colOf (t (ix1 (rowOf w (laneOf ⟨j % 4, Nat.mod_lt _ (by decide)⟩ l))))) : ℝ) : EReal)
  | 0, _ => by
    rw [Finset.range_zero, Finset.sum_empty]
    exact Ideal.ofBits_zero_f32
  | n + 1, h => by
    have e : (⟨n % 4, Nat.mod_lt _ (by decide)⟩ : Fin 4) = ⟨n, h⟩ := Fin.ext (Nat.mod_eq_of_lt h)
    rw [Finset.sum_range_succ, e]
    unfold sums
    rw [dif_pos (show n < 4 from h)]
    exact step_coe _ _ _ _ _ _ (sums_coe w l n (by omega)) (hx _ _)

include hx in
theorem outBuf_coe (k : Fin 512) : outBuf x t (ix1 k)
    = ((∑ g : Fin 4, sparse (t (ix1 (bySum (k, g)))) (X (bySum (k, g)) (colOf (t (ix1 (bySum (k, g)))))) : ℝ) : EReal) := by
  have h := sums_coe hx t ⟨k.val / 16, by omega⟩ ⟨k.val % 16, by omega⟩ 4 le_rfl
  show (Named.named κ "conf_less_redist" 0x3F666632#32 : Ideal .f32) * sums x t ⟨k.val / 16, by omega⟩ 4 (ix1 ⟨k.val % 16, by omega⟩) = _
  rw [h, named_conf, ← EReal.coe_mul, Finset.mul_sum, Finset.sum_range]
  refine congrArg _ (Finset.sum_congr rfl fun g _ => ?_)
  have e : (⟨g.val % 4, Nat.mod_lt _ (by decide)⟩ : Fin 4) = g := Fin.ext (Nat.mod_eq_of_lt g.isLt)
  rw [e]
  rfl

include hx in
/-- The 512 sums' sum: the rows' sparse parts. -/
theorem sparse_total (i : S_.Idx) : Host.reduceAdd (outBuf x t) (constant S_ .f32 0x00000000#32 : FVec Ideal S_ .f32) reducesTo_S512_S_d0 h_S_ i
    = ((∑ r, sparse (t (ix1 r)) (X r (colOf (t (ix1 r)))) : ℝ) : EReal) := by
  refine (Ideal.hostReduceAdd_r1_a0 _ _ _ _).trans ?_
  show Ideal.ofBits .f32 0x00000000#32 + _ = _
  rw [Ideal.ofBits_zero_f32, zero_add, ← Equiv.sum_comp bySum, Fintype.sum_prod_type, ← coe_sum]
  exact Finset.sum_congr rfl fun k _ => outBuf_coe hx t k

include hx in
/-- The program's result: the loss. -/
theorem value_apply (ht : ∀ r, (t r).toNat < 32000) (i : S_.Idx) :
    Main.value x t i = ((∑ r, ∑ c, entry (t (ix1 r)) c (X r c) : ℝ) : EReal) := by
  show Region.acc (F := Ideal) x (Main.rows t) 64 - Host.reduceAdd (outBuf x t) (constant S_ .f32 0x00000000#32 : FVec Ideal S_ .f32) reducesTo_S512_S_d0 h_S_ i = _
  rw [dense_total hx, sparse_total hx, ← EReal.coe_sub, ← Finset.sum_sub_distrib]
  exact congrArg _ (Finset.sum_congr rfl fun r _ => (row_sum (ht _) (X r)).symm)

end Cert.Proof.Sums

end
-- ==== Proof.Equation.lean ====
/-
  The two programs' results agree: both are the loss of Proof/Loss.lean at the launch memory's log-probabilities and tokens.
-/
module

public import proofs.«01_k».proof.Proof.Frames
public import proofs.«01_k».proof.Proof.Reference
public import proofs.«01_k».proof.Proof.Sums

@[expose] public section

noncomputable section

namespace Cert.Proof.Equation

open Idealize.ShloMosaic Idealize.SL.Sem

/-- One value, from an `x` with real entries and tokens that name columns. -/
theorem total_eq_value (x : FVec Ideal Cert.KernelIdeal.S2048x32000 .f32) (t : IVec Cert.KernelIdeal.S2048 32)
    (hx : ∀ i, ∃ a : ℝ, x i = (a : EReal)) (ht : ∀ r, (t r).toNat < 32000) : Reference.total x t = Main.value x t := by
  choose X hX using hx
  funext i
  rw [Reference.total_apply ht x (fun r c => X (ValueIdx.ix2 r c)) (fun r c => hX _) i,
    Sums.value_apply (X := fun r c => X (ValueIdx.ix2 r c)) (fun r c => hX _) t ht i]

theorem algebraic : Cert.algebraic_KernelIdeal_ReferenceIdeal_pre_finite_and_in_range := fun m ρ m' ρ' hpre hm => by
  have ht : Call.TokensOK m := fun d r => Frames.tokens_of_finite_pre _ _ (hpre d) r
  refine ⟨fun c => Main.value (Call.xOf m c) (Call.tOf m c),
    (θ_run Cert.KernelIdeal.defs _ _).mono (fun _ h c => ⟨(h.1 c).2.2, (h.1 c).1, (h.1 c).2.1⟩) (Main.run_main m ρ ht),
    (θ_run Cert.ReferenceIdeal.defs _ _).mono (fun _ h c => ⟨(h c).1.trans ?_, (h c).2⟩) (Cert.ReferenceIdeal.Value.run m' ρ')⟩
  refine (Reference.result_eq m' c).trans ?_
  rw [(hm c).1, (hm c).2]
  exact total_eq_value _ _ (Frames.finite_of_pre _ _ (hpre c)) (ht c)

end Cert.Proof.Equation

end
-- ==== Proof.lean ====
/-
  The certificate's claims, put together: the frames of the three programs, the named constants, and the one result's value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tokens_in_range
public import proofs.«01_k».proof.Proof.Gen.Pre_finite_and_in_range
public import proofs.«01_k».proof.Proof.FrameKernel
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts, Cert.Pre_tokens_in_range.Gen.facts,
    Cert.Pre_finite_and_in_range.Gen.facts, Frames.frame_p, Frames.frame_pi, Frames.frame_pi_finite, Reference.frame_ri,
    Reference.frame_ri_finite, Frames.preserves, Equation.algebraic⟩

end Cert.Proof

end
